-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal (hKernelIdeal := hKernelIdeal) (hReferenceIdeal := hReferenceIdeal) (hPre_rows_in_range := hPre_rows_in_range)
-- ==== Pre_rows_in_range.lean ====
abbrev S4096x50 : Shape := ⟨2, ![4096, 50]⟩
abbrev S100000x128 : Shape := ⟨2, ![100000, 128]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x128 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x128 : Shape := ⟨2, ![100000, 128]⟩
abbrev S50x4096 : Shape := ⟨2, ![50, 4096]⟩
abbrev S204800x128 : Shape := ⟨2, ![204800, 128]⟩
abbrev S50x128 : Shape := ⟨2, ![50, 128]⟩
abbrev S128x128 : Shape := ⟨2, ![128, 128]⟩
abbrev S_ : Shape := ⟨0, ![]⟩
abbrev S1x128 : Shape := ⟨2, ![1, 128]⟩
abbrev S128 : Shape := ⟨1, ![128]⟩
abbrev S50x4096x128 : Shape := ⟨3, ![50, 4096, 128]⟩
abbrev S4096x50x128 : Shape := ⟨3, ![4096, 50, 128]⟩

abbrev nBuf : Table → Nat
  | .hbm => 6
  | .local .scVector .vmem => 6
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S50x4096, .i32⟩
  | .hbm, ⟨3, _⟩ => ⟨S204800x128, .f32⟩
  | .hbm, ⟨4, _⟩ => ⟨S50x4096x128, .f32⟩
  | .hbm, ⟨5, _⟩ => ⟨S4096x50x128, .f32⟩
  | .local .scVector .vmem, ⟨0, _⟩ => ⟨S50x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_61_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
def k0_off2 (i : grid0.Coords) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v18 : BitVec 32 := Scalar.addi c0_i32_17 v2
  let c0_i32_18 : BitVec 32 := 0#32
  ![v18.toNat, 0]
def k0_off2_at (r : Fin 7) : BitVec 32 :=
  if r.val < 3 then
    if r.val < 1 then
      0#32
    else
      if r.val < 2 then
        4096#32
      else
        192512#32
  else
    if r.val < 5 then
      if r.val < 4 then
        196608#32
      else
        200704#32
    else
      if r.val < 6 then
        184320#32
      else
        188416#32
@[reducible] def k0_t1_loop : Scf.Loop 32 :=
  let c1_i32_30 : BitVec 32 := 1#32
  let c9_i32 : BitVec 32 := 9#32
  let v30 : BitVec 32 := Scalar.addi c1_i32_30 c9_i32
  let c1_i32_31 : BitVec 32 := 1#32
  ⟨c1_i32_30, v30, c1_i32_31⟩
def k0_off3 (i : grid0.Coords) (k0_t1 : Fin k0_t1_loop.trips) (c0_i32_61 : BitVec 32) (c5_i32_62 : BitVec 32) : Fin 2 → Nat :=
  let c1_i32_30 : BitVec 32 := 1#32
  let c1_i32_31 : BitVec 32 := 1#32
  let arg21 : BitVec 32 := Scf.iv c1_i32_30 c1_i32_31 k0_t1
  let c5_i32 : BitVec 32 := 5#32
  let v64 : BitVec 32 := Scalar.muli arg21 c5_i32
  let v65 : BitVec 32 := Scalar.addi v64 c0_i32_61
  let v66 : BitVec 32 := Scalar.subi v65 c5_i32_62
  let c4096_i32_63 : BitVec 32 := 4096#32
  let v67 : BitVec 32 := Scalar.muli v66 c4096_i32_63
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v68 : BitVec 32 := Scalar.addi v67 v2
  let c0_i32_64 : BitVec 32 := 0#32
  ![v68.toNat, 0]
def k0_off4 (k0_t1 : Fin k0_t1_loop.trips) (c0_i32_61 : BitVec 32) : Fin 2 → Nat :=
  let c1_i32_30 : BitVec 32 := 1#32
  let c1_i32_31 : BitVec 32 := 1#32
  let arg21 : BitVec 32 := Scf.iv c1_i32_30 c1_i32_31 k0_t1
  let c5_i32 : BitVec 32 := 5#32
  let v64 : BitVec 32 := Scalar.muli arg21 c5_i32
  let v65 : BitVec 32 := Scalar.addi v64 c0_i32_61
  let c0_i32_66 : BitVec 32 := 0#32
  ![v65.toNat, 0]
def k0_off5 (k0_t1 : Fin k0_t1_loop.trips) (c0_i32_61 : BitVec 32) : Fin 2 → Nat :=
  let c1_i32_30 : BitVec 32 := 1#32
  let c1_i32_31 : BitVec 32 := 1#32
  let arg21 : BitVec 32 := Scf.iv c1_i32_30 c1_i32_31 k0_t1
  let c5_i32 : BitVec 32 := 5#32
  let v64 : BitVec 32 := Scalar.muli arg21 c5_i32
  let v65 : BitVec 32 := Scalar.addi v64 c0_i32_61
  let c3_i32_69 : BitVec 32 := 3#32
  let v74 : BitVec 32 := Scalar.subi v65 c3_i32_69
  let c0_i32_70 : BitVec 32 := 0#32
  ![v74.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x50 : Shape := ⟨2, ![4096, 50]⟩
abbrev S100000x128 : Shape := ⟨2, ![100000, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  The lookup kernel's addresses and its values, per vector subcore.

  Subcore `L` handles the 128 batch columns from `base L` on. Its work is cut in 50 chunks, one per history position: chunk
  `n` reads row `n` of the fetched indices (`rowV n`) and fills 128 rows of the output (`outV L n`). This module names those
  windows, says which coordinates each one covers, and says what value belongs in the output (`lookup`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.ValueIdx (ix2 ix1 ix3)
open Idealize.ShloMosaic.SparseCore (S V T)

variable {F : FTy → Type}

/-! ## The windows -/

/-- The index array, the table, the output and the index scratch, whole. -/
abbrev posV : Memref sig .scVector .hbm S50x4096 .i32 := Memref.whole main_v0_scv
abbrev tblV : Memref sig .scVector .hbm S100000x128 .f32 := Memref.whole main_arg1_scv
abbrev resV : Memref sig .scVector .hbm S204800x128 .f32 := Memref.whole main_v1_scv
abbrev lstV : Memref sig .scVector .vmem S50x128 .i32 := Memref.whole cc0_scratch0

/-- The five row buffers. -/
def bufM : Fin 5 → Memref sig .scVector .vmem S128x128 .f32
  | 0 => Memref.whole cc0_scratch1
  | 1 => Memref.whole cc0_scratch2
  | 2 => Memref.whole cc0_scratch3
  | 3 => Memref.whole cc0_scratch4
  | 4 => Memref.whole cc0_scratch5

/-- The semaphore of each buffer's gathers. -/
def gsemM : Fin 5 → DmaSem sig
  | 0 => cc0_scratch6.sem
  | 1 => cc0_scratch7.sem
  | 2 => cc0_scratch8.sem
  | 3 => cc0_scratch9.sem
  | 4 => cc0_scratch10.sem

/-- The semaphore of each buffer's copies to the output. -/
def osemM : Fin 5 → DmaSem sig
  | 0 => cc0_scratch11.sem
  | 1 => cc0_scratch12.sem
  | 2 => cc0_scratch13.sem
  | 3 => cc0_scratch14.sem
  | 4 => cc0_scratch15.sem

/-- Chunk `n` goes through buffer `n % 5`. -/
def slot (n : ℕ) : Fin 5 := ⟨n % 5, Nat.mod_lt _ (by decide)⟩

theorem slot_eq {n : ℕ} {j : Fin 5} (h : n % 5 = j.val) : slot n = j := Fin.ext h
theorem slot_add (n : ℕ) : slot (n + 5) = slot n := Fin.ext (by simp [slot])

/-- The first batch column of subcore `L`. -/
def base (L : grid0.Coords) : ℕ := 256 * (L 1).val + 128 * (L 0).val

theorem base_le (L : grid0.Coords) : base L + 128 ≤ 4096 := by
  have h0 : (L 0).val < 2 := (L 0).isLt
  have h1 : (L 1).val < 16 := (L 1).isLt
  unfold base; omega

theorem outV_inb (L : grid0.Coords) (n : ℕ) :
    ∀ a, (![4096 * (n % 50) + base L, 0] : Fin 2 → ℕ) a + S128x128.size a ≤ S204800x128.size a := by
  have h := base_le L
  have hn : n % 50 < 50 := Nat.mod_lt _ (by decide)
  intro a
  match a with
  | 0 => show 4096 * (n % 50) + base L + 128 ≤ 204800; omega
  | 1 => show 0 + 128 ≤ 128; omega

theorem colV_inb (L : grid0.Coords) : ∀ a, (![0, base L] : Fin 2 → ℕ) a + S50x128.size a ≤ S50x4096.size a := by
  have h := base_le L
  intro a
  match a with
  | 0 => show 0 + 50 ≤ 50; omega
  | 1 => show base L + 128 ≤ 4096; omega

theorem rowV_inb (n : ℕ) : ∀ a, (![n % 50, 0] : Fin 2 → ℕ) a + S1x128.size a ≤ S50x128.size a := by
  have hn : n % 50 < 50 := Nat.mod_lt _ (by decide)
  intro a
  match a with
  | 0 => show n % 50 + 1 ≤ 50; omega
  | 1 => show 0 + 128 ≤ 128; omega

/-- The 128 output rows of chunk `n`. -/
def outV (L : grid0.Coords) (n : ℕ) : Memref sig .scVector .hbm S128x128 .f32 :=
  resV.slice (Rect.unit (s := S204800x128) ![4096 * (n % 50) + base L, 0] S128x128.size (outV_inb L n)) (fun _ => rfl)

/-- The 50 by 128 block of the index array that subcore `L` fetches. -/
def colV (L : grid0.Coords) : Memref sig .scVector .hbm S50x128 .i32 :=
  posV.slice (Rect.unit (s := S50x4096) ![0, base L] S50x128.size (colV_inb L)) (fun _ => rfl)

/-- Row `n` of the fetched indices: the list chunk `n`'s gather reads. -/
def rowV (n : ℕ) : Memref sig .scVector .vmem S128 .i32 :=
  (lstV.slice (Rect.unit (s := S50x128) ![n % 50, 0] S1x128.size (rowV_inb n)) (fun _ => rfl)).squeeze S128 squeezes_S1x128_S128

/-- The table as a gather addresses it: the slice that is all of it. -/
def tabV : Memref sig .scVector .hbm S100000x128 .f32 :=
  tblV.slice (Rect.unit (s := S100000x128) ![0, 0] S100000x128.size inb_S100000x128_S100000x128_0_0) (fun _ => rfl)

/-! ## The printed offsets are these windows' -/

/-- The values of the literal offsets, by chunk: `k0_off2` at constant `4096 * n` starts at that constant plus `base`. -/
theorem off2_closed : ∀ (i : grid0.Coords) (r : Fin 7),
    k0_off2 i (k0_off2_at r) = ![(k0_off2_at r).toNat + (256 * (i 1).val + 128 * (i 0).val), 0] := by decide +kernel

theorem out_window (L : grid0.Coords) {off : Fin 2 → ℕ} (inb : ∀ a, off a + S128x128.size a ≤ S204800x128.size a) (n : ℕ) (hn : n < 50)
    (h : off = ![4096 * n + base L, 0]) :
    resV.slice (Rect.unit (s := S204800x128) off S128x128.size inb) (fun _ => rfl) = outV L n := by
  subst h; unfold outV
  exact Memref.slice_unit_congr _ (by rw [Nat.mod_eq_of_lt hn]) _ _ _ _

theorem row_window {off : Fin 2 → ℕ} (inb : ∀ a, off a + S1x128.size a ≤ S50x128.size a) (n : ℕ) (hn : n < 50) (h : off = ![n, 0]) :
    (lstV.slice (Rect.unit (s := S50x128) off S1x128.size inb) (fun _ => rfl)).squeeze S128 squeezes_S1x128_S128 = rowV n := by
  subst h; unfold rowV
  rw [Memref.slice_unit_congr lstV (off' := ![n % 50, 0]) (by rw [Nat.mod_eq_of_lt hn]) _ (rowV_inb n) _ (fun _ => rfl)]

theorem col_window (L : grid0.Coords) :
    posV.slice (Rect.unit (s := S50x4096) (k0_off1 L) S50x128.size (k0_off1_inb L)) (fun _ => rfl) = colV L := by
  unfold colV
  exact Memref.slice_unit_congr _ (by rw [k0_off1_eq]; rfl) _ _ _ _

/-! ## Where each window's coordinates lie -/

/-- The output row and lane under lane `j` of chunk `n`. -/
abbrev outIx (L : grid0.Coords) (n : ℕ) (j : S128x128.Idx) : S204800x128.Idx :=
  ix2 (n0 := 204800) (n1 := 128) ⟨4096 * (n % 50) + base L + (j 0).val, by
    have h := base_le L
    have hn : n % 50 < 50 := Nat.mod_lt _ (by decide)
    have hj : (j 0).val < 128 := (j 0).isLt
    omega⟩ (j 1)

/-- The index word under position `j` of the fetched block. -/
abbrev colIx (L : grid0.Coords) (j : S50x128.Idx) : S50x4096.Idx :=
  ix2 (n0 := 50) (n1 := 4096) (j 0) ⟨base L + (j 1).val, by
    have h := base_le L
    have hj : (j 1).val < 128 := (j 1).isLt
    omega⟩

/-- The fetched index under position `j` of row `n`. -/
abbrev rowIx (n : ℕ) (j : S128.Idx) : S50x128.Idx := ix2 (n0 := 50) (n1 := 128) ⟨n % 50, Nat.mod_lt _ (by decide)⟩ (j 0)

theorem outV_emb (L : grid0.Coords) (n : ℕ) (j : S128x128.Idx) : (outV L n).view.emb j = outIx L n j := by
  refine funext fun a : Fin 2 => Fin.ext ?_
  match a with
  | 0 => show 4096 * (n % 50) + base L + 1 * (j 0).val = 4096 * (n % 50) + base L + (j 0).val; omega
  | 1 => show 0 + 1 * (j 1).val = (j 1).val; omega

theorem colV_emb (L : grid0.Coords) (j : S50x128.Idx) : (colV L).view.emb j = colIx L j := by
  refine funext fun a : Fin 2 => Fin.ext ?_
  match a with
  | 0 => show 0 + 1 * (j 0).val = (j 0).val; omega
  | 1 => show base L + 1 * (j 1).val = base L + (j 1).val; omega

theorem tabV_emb (j : S100000x128.Idx) : tabV.view.emb j = j := by
  refine funext fun a : Fin 2 => Fin.ext ?_
  match a with
  | 0 => show 0 + 1 * (j 0).val = (j 0).val; omega
  | 1 => show 0 + 1 * (j 1).val = (j 1).val; omega

theorem rowV_emb (n : ℕ) (j : S128.Idx) : (rowV n).view.emb j = rowIx n j := by
  have e : Shape.reshapeEquiv (s := S1x128) (s' := S128) squeezes_S1x128_S128.numel_eq j = ix2 (n0 := 1) (n1 := 128) 0 (j 0) := by
    apply Shape.reshapeEquiv_eq_of_rowMajor
    rw [Shape.rowMajor_val_two, Shape.rowMajor_val_one]
    show 0 * 128 + (j 0).val = (j 0).val
    omega
  show (Rect.unit (s := S50x128) ![n % 50, 0] S1x128.size (rowV_inb n)).emb
    (Shape.reshapeEquiv (s := S1x128) (s' := S128) squeezes_S1x128_S128.numel_eq j) = _
  rw [e]
  refine funext fun a : Fin 2 => Fin.ext ?_
  match a with
  | 0 => show n % 50 + 1 * 0 = n % 50; omega
  | 1 => show 0 + 1 * (j 0).val = (j 0).val; omega

theorem outV_read (L : grid0.Coords) (n : ℕ) (f : S204800x128.Idx → Elt F .f32) (j : S128x128.Idx) :
    (outV L n).view.read (Elt F) f j = f (outIx L n j) := congrArg f (outV_emb L n j)
theorem colV_read (L : grid0.Coords) (f : S50x4096.Idx → Elt F .i32) (j : S50x128.Idx) :
    (colV L).view.read (Elt F) f j = f (colIx L j) := congrArg f (colV_emb L j)
theorem tabV_read (f : S100000x128.Idx → Elt F .f32) : tabV.view.read (Elt F) f = f := funext fun j => congrArg f (tabV_emb j)
theorem rowV_read (n : ℕ) (f : S50x128.Idx → Elt F .i32) (j : S128.Idx) :
    (rowV n).view.read (Elt F) f j = f (rowIx n j) := congrArg f (rowV_emb n j)

/-! ## The values -/

/-- What the output must hold: row `4096 * h + b` is the table's row named by the index at history position `h`, batch `b`. -/
def lookup (I : S50x4096.Idx → Elt F .i32) (X : S100000x128.Idx → Elt F .f32) : S204800x128.Idx → Elt F .f32 := fun r =>
  X (ix2 (n0 := 100000) (n1 := 128)
    ⟨(I (ix2 (n0 := 50) (n1 := 4096)
        ⟨(r 0).val / 4096, by have h : (r 0).val < 204800 := (r 0).isLt; omega⟩
        ⟨(r 0).val % 4096, Nat.mod_lt _ (by decide)⟩)).toNat % 100000, Nat.mod_lt _ (by decide)⟩ (r 1))

/-- The subcore's fetched indices. -/
def fetched (L : grid0.Coords) (I : S50x4096.Idx → Elt F .i32) : S50x128.Idx → Elt F .i32 := (colV L).view.read (Elt F) I

/-- What chunk `n` must carry: its window of `lookup`. -/
def chunkVal (L : grid0.Coords) (I : S50x4096.Idx → Elt F .i32) (X : S100000x128.Idx → Elt F .f32) (n : ℕ) : S128x128.Idx → Elt F .f32 :=
  (outV L n).view.read (Elt F) (lookup I X)

/-- Every index names a row of the table. -/
def InRange (I : S50x4096.Idx → Elt F .i32) : Prop := ∀ j, (I j).toNat < 100000

theorem list_lt (L : grid0.Coords) {I : S50x4096.Idx → Elt F .i32} (hI : InRange I) (n : ℕ) (x : S128.Idx) :
    ((rowV n).view.read (Elt F) (fetched L I) x).toNat < S100000x128.size gathers_S100000x128_S128x128.axis := by
  rw [rowV_read]; unfold fetched; rw [colV_read]; exact hI _

/-- The gather of chunk `n` brings that chunk's value. -/
theorem gather_val (L : grid0.Coords) (I : S50x4096.Idx → Elt F .i32) (X : S100000x128.Idx → Elt F .f32) (n : ℕ) (hI : InRange I)
    (hin : ∀ x, ((rowV n).view.read (Elt F) (fetched L I) x).toNat < S100000x128.size gathers_S100000x128_S128x128.axis) :
    SparseCore.gatherPayload gathers_S100000x128_S128x128 (tabV.view.read (Elt F) X)
        (SparseCore.rows ((rowV n).view.read (Elt F) (fetched L I)) rfl hin)
      = chunkVal L I X n := by
  funext j
  unfold SparseCore.gatherPayload chunkVal
  rw [outV_read, tabV_read]
  unfold lookup
  refine congrArg X (funext fun a : Fin 2 => Fin.ext ?_)
  have h := base_le L
  have hn : n % 50 < 50 := Nat.mod_lt _ (by decide)
  have hj : (j 0).val < 128 := (j 0).isLt
  match a with
  | 0 =>
    show ((rowV n).view.read (Elt F) (fetched L I) (S128.rowMajor.symm _)).toNat = _ % 100000
    rw [rowV_read]; unfold fetched; rw [colV_read, Nat.mod_eq_of_lt (hI _)]
    refine congrArg BitVec.toNat (congrArg I (funext fun b : Fin 2 => Fin.ext ?_))
    match b with
    | 0 => show n % 50 = (4096 * (n % 50) + base L + (j 0).val) / 4096; omega
    | 1 =>
      have e : ∀ k : Fin S128.numel, ((S128.rowMajor.symm k : S128.Idx) 0).val = k.val := fun k => by
        rw [← Shape.rowMajor_val_one, Equiv.apply_symm_apply]
      show base L + ((S128.rowMajor.symm _ : S128.Idx) 0).val = (4096 * (n % 50) + base L + (j 0).val) % 4096
      rw [e]
      show base L + (j 0).val = _
      omega
  | 1 => rfl

/-! ## Which elements each window covers -/

theorem mem_outV (L : grid0.Coords) (n : ℕ) (i : S204800x128.Idx) :
    i ∈ (outV L n).view.set ↔ 4096 * (n % 50) + base L ≤ (i 0).val ∧ (i 0).val < 4096 * (n % 50) + base L + 128 := by
  show i ∈ ((View.whole (main_v1_scv : Ref sig .scVector)).slice (Rect.unit (s := S204800x128) ![4096 * (n % 50) + base L, 0] S128x128.size (outV_inb L n))).set ↔ _
  rw [View.set_slice_whole, Rect.mem_set_unit]
  have hi : (i 1).val < 128 := (i 1).isLt
  refine ⟨fun h => h 0, fun h a => ?_⟩
  match a with
  | 0 => exact h
  | 1 => exact ⟨Nat.zero_le _, by show (i 1).val < 0 + 128; omega⟩

theorem mem_colV (L : grid0.Coords) (i : S50x4096.Idx) :
    i ∈ (colV L).view.set ↔ base L ≤ (i 1).val ∧ (i 1).val < base L + 128 := by
  show i ∈ ((View.whole (main_v0_scv : Ref sig .scVector)).slice (Rect.unit (s := S50x4096) ![0, base L] S50x128.size (colV_inb L))).set ↔ _
  rw [View.set_slice_whole, Rect.mem_set_unit]
  have hi : (i 0).val < 50 := (i 0).isLt
  refine ⟨fun h => h 1, fun h a => ?_⟩
  match a with
  | 0 => exact ⟨Nat.zero_le _, by show (i 0).val < 0 + 50; omega⟩
  | 1 => exact h

theorem mem_rowV (n : ℕ) (i : S50x128.Idx) : i ∈ (rowV n).view.set ↔ (i 0).val = n % 50 := by
  show i ∈ (((View.whole (cc0_scratch0 : Ref sig .scVector)).slice
    (Rect.unit (s := S50x128) ![n % 50, 0] S1x128.size (rowV_inb n))).reshape S128 squeezes_S1x128_S128.numel_eq).set ↔ _
  rw [View.set_reshape, View.set_slice_whole, Rect.mem_set_unit]
  have hi : (i 1).val < 128 := (i 1).isLt
  refine ⟨fun h => ?_, fun h a => ?_⟩
  · have h0 := h 0
    have h1 : n % 50 ≤ (i 0).val ∧ (i 0).val < n % 50 + 1 := h0
    omega
  · match a with
    | 0 => show n % 50 ≤ (i 0).val ∧ (i 0).val < n % 50 + 1; omega
    | 1 => exact ⟨Nat.zero_le _, by show (i 1).val < 0 + 128; omega⟩

theorem tabV_set : tabV.view.set = Finset.univ :=
  Finset.eq_univ_of_forall fun i => by rw [← tabV_emb i]; exact View.emb_mem_set _ i

theorem bufM_set (j : Fin 5) : (bufM j).view.set = Finset.univ := by
  match j with
  | 0 | 1 | 2 | 3 | 4 => exact View.set_whole _

/-- Writing chunk `n`'s value over its window leaves `lookup` there. -/
theorem out_written (L : grid0.Coords) (I : S50x4096.Idx → Elt F .i32) (X : S100000x128.Idx → Elt F .f32) (n : ℕ)
    (f : S204800x128.Idx → Elt F .f32) :
    ∀ i ∈ (outV L n).view.set, (outV L n).view.write (Elt F) f (chunkVal L I X n) Finset.univ i = lookup I X i := by
  intro i hi
  obtain ⟨x, -, rfl⟩ := Finset.mem_map.mp hi
  exact congrFun (View.read_write_univ (v := (outV L n).view) f (chunkVal L I X n)) x

end Cert.Proof.Lookup

end
-- ==== Proof.State.lean ====
/-
  The state of one subcore's pipeline and the four steps that move it.

  Every chunk passes four steps in order: its gather is started, that gather is awaited, its copy to the output is started,
  that copy is awaited. A subcore runs the chunks through each step in order, so four counters `a ≥ b ≥ c ≥ e` (chunks past
  each step) describe its whole state (`St`): the chunks from `a` on are untouched, those from `b` to `a` are in a gather,
  those from `c` to `b` sit in their buffer, those from `e` to `c` are being copied out, and those below `e` are done. The
  buffers of the chunks from `a` to `e + 5` are free. Each step has one lemma, the same for every chunk and buffer.
-/
module

public import proofs.«01_k».proof.Proof.Setup
public import Idealize.SL.BI.BigOpNat

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The ghost state: the launch handshakes' rounds, and the transfers' counters. -/
abbrev UH : Type := URounds (GSem nD τ sig) ℕ
abbrev UU : Type := UH × Counters

local notation "𝕄" => MT nD τ sig (HIx 1) (Elt F) ℕ UU ℕ

abbrev 𝒱₀ : Variants := Variants.none

/-- The SparseCore and the subcore of task `L`, and its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- What one chunk's transfer, in or out, adds to its semaphore. -/
abbrev NC : ℕ := 524288

theorem credit_buf (j : Fin 5) : (bufM j).view.dmaCredit = NC := by
  match j with
  | 0 | 1 | 2 | 3 | 4 => rfl

section Chunk

variable (d : Dev nD) (L : grid0.Coords) (I : S50x4096.Idx → Elt F .i32) (X : S100000x128.Idx → Elt F .f32)
  (R : S204800x128.Idx → Elt F .f32) (q : ℕ → PosShare TreeShare)

/-! ## What a chunk holds -/

/-- Chunk `n`'s share of the table, its row of the fetched indices, its window of the output, and a row buffer. -/
abbrev tokP (n : ℕ) : sProp 𝕄 := tabV.view.loc (thr d L) ↦[tabV.view.set]{q n} X
abbrev rowP (n : ℕ) : sProp 𝕄 := (rowV n).view.loc (thr d L) ↦[(rowV n).view.set]{fullShare} fetched L I
abbrev outP (n : ℕ) (f : S204800x128.Idx → Elt F .f32) : sProp 𝕄 := (outV L n).view.loc (thr d L) ↦[(outV L n).view.set]{fullShare} f
abbrev bufP (j : Fin 5) (g : Buf (Elt F) ((bufM j).view.loc (thr d L))) : sProp 𝕄 :=
  (bufM j).view.loc (thr d L) ↦[(bufM j).view.set]{fullShare} g
/-- The buffer's gather semaphore and its output semaphore, at zero. -/
abbrev gsemP (j : Fin 5) : sProp 𝕄 := semVal (thr d L, SemLoc.dma (gsemM j)) 0
abbrev osemP (j : Fin 5) : sProp 𝕄 := semVal (thr d L, SemLoc.dma (osemM j)) 0

/-- The buffer at some contents; the buffer holding chunk `n`'s rows. -/
def anyP (j : Fin 5) : sProp 𝕄 := iprop(∃ g, bufP (F := F) d L j g)
def fullP (n : ℕ) (j : Fin 5) : sProp 𝕄 := iprop(∃ g, ⌜(bufM j).view.read (Elt F) g = chunkVal L I X n⌝ ∗ bufP d L j g)

/-- A chunk not yet started. -/
def Todo (n : ℕ) : sProp 𝕄 := iprop(tokP d L X q n ∗ rowP d L I n ∗ outP d L n R)
/-- A free buffer (the one chunk `n` uses) with both its semaphores at zero. -/
def Free (n : ℕ) : sProp 𝕄 := iprop(anyP (F := F) d L (slot n) ∗ gsemP (F := F) d L (slot n) ∗ osemP (F := F) d L (slot n))
/-- A chunk whose gather is in flight. -/
def Gathering (n : ℕ) : sProp 𝕄 :=
  iprop(Transfers.Flight countersEmb (thr d L) (.dma (gsemM (slot n))) (default : HIx 1) NC
      iprop(fullP d L I X n (slot n) ∗ tokP d L X q n ∗ rowP d L I n)
    ∗ outP d L n R ∗ osemP (F := F) d L (slot n))
/-- A chunk whose rows sit in its buffer. -/
def Gathered (n : ℕ) : sProp 𝕄 :=
  iprop(fullP d L I X n (slot n) ∗ tokP d L X q n ∗ rowP d L I n ∗ outP d L n R ∗ gsemP (F := F) d L (slot n) ∗ osemP (F := F) d L (slot n))
/-- A chunk being copied to the output. -/
def Outing (n : ℕ) : sProp 𝕄 :=
  iprop(Transfers.Flight countersEmb (thr d L) (.dma (osemM (slot n))) (default : HIx 1) NC
      iprop(outP d L n (lookup I X) ∗ anyP (F := F) d L (slot n))
    ∗ tokP d L X q n ∗ rowP d L I n ∗ gsemP (F := F) d L (slot n))
/-- A finished chunk. -/
def Done (n : ℕ) : sProp 𝕄 := iprop(tokP d L X q n ∗ rowP d L I n ∗ outP d L n (lookup I X))

theorem Free_period (n : ℕ) : Free (F := F) d L (n + 5) = Free d L n := by unfold Free; rw [slot_add]

/-! ## One chunk's steps -/

variable [FloatOps F]

theorem gather_start (hI : InRange I) (n : ℕ) {Q : PUnit → sProp 𝕄} {hp hn hsrc he hsp hr} :
    iprop(Todo d L I X R q n ∗ Free (F := F) d L n)
      ⊢ iprop((Gathering d L I X R q n -∗ Q ⟨⟩) -∗ wp frame (wpE (defs₀ (F := F)) 𝒱₀ (thr d L) none) Set.univ
          (SparseCore.enqueueIndirectGather hp tabV (bufM (slot n)) gathers_S100000x128_S128x128 (rowV n) hn (gsemM (slot n)) hsrc he hsp hr) Q) := by
  unfold Todo Free Gathering anyP
  have hN : ∑ j, ((bufM (slot n)).slice (S128x128.rowRect gathers_S100000x128_S128x128.axis' j)
      (S128x128.stride_rowRect gathers_S100000x128_S128x128.axis' j)).view.dmaCredit = NC := by
    generalize slot n = j
    match j with
    | 0 | 1 | 2 | 3 | 4 => exact (SparseCore.sum_rowCredit_eq_dmaCredit _ _ fun _ => rfl).trans rfl
  rw [← Prog.bind_pure (SparseCore.enqueueIndirectGather _ _ _ _ _ _ _ _ _ _ _)]
  iintro ⟨⟨Ht, Hr, Ho⟩, ⟨%g, Hb⟩, Hg, Hos⟩ Hk
  iapply (SparseCore.wp_indirectGatherLocal countersEmb 𝒱₀ (thr d L) none (hg := gathers_S100000x128_S128x128) (default : HIx 1)
      NC hN (by decide) (list_lt L hI n)) $$ [Ht Hb Hr Hg]
  · isplitl [Ht]; · iexact Ht
    isplitl [Hb]; · iexact Hb
    isplitl [Hr]; · iexact Hr
    iexact Hg
  iintro Hfl
  rw [show (pure ⟨⟩ : Prog (TpuEff nD τ sig (Elt F) Λ₀ (thr d L).2) PUnit) = .ret ⟨⟩ from rfl, wp_ret]
  imodintro
  iapply Hk
  isplitl [Hfl]
  · iapply (Transfers.Flight_mono countersEmb (thr d L) (sep_mono_left ?_)) $$ Hfl
    unfold fullP
    iintro H
    iexists _
    isplitr
    swap; · iexact H
    ipureintro
    rw [View.read_write_univ]
    exact gather_val L I X n hI _
  isplitl [Ho]; · iexact Ho
  iexact Hos

/-- Awaiting a flight of `N` on semaphore `sem`: what it delivers comes back, the semaphore at zero, and the wait recorded. -/
theorem wait_flight {sem : DmaSem sig} {D : sProp 𝕄} {sp sp' : Space} {s s' : Shape} {e e' : EltTy}
    {src : Memref sig .scVector sp s e} {dst : Memref sig .scVector sp' s' e'} {hsrc : src.view.WordExact} {hdst : dst.view.WordExact}
    {N : ℕ} (hN : dst.view.dmaCredit = N) (O : CellTallies nD τ sig (HIx 1)) (W : Waits sig (HIx 1)) {Q : PUnit → sProp 𝕄} :
    iprop(Transfers.Flight countersEmb (thr d L) (.dma sem) (default : HIx 1) N D
        ∗ (∃ W', ⌜∀ p ∈ W', p ∈ W ∨ p.2 = none⌝ ∗ owes (thr d L) O W') ∗ Transfers.MayWaits (thr d L) (default : HIx 1) O)
      ⊢ iprop(((D ∗ semVal (thr d L, SemLoc.dma sem) 0 ∗ ∃ W', ⌜∀ p ∈ W', p ∈ W ∨ p.2 = none⌝ ∗ owes (thr d L) O W') -∗ Q ⟨⟩)
        -∗ wp frame (wpE (defs₀ (F := F)) 𝒱₀ (thr d L) none) Set.univ (.op (.waitDma2 sem src dst hsrc hdst) fun _ => .ret ⟨⟩) Q) := by
  iintro ⟨Hfl, ⟨%W', %hW', HO⟩, Hmw⟩ Hk
  iapply (Transfers.wp_waitLocalO countersEmb 𝒱₀ (thr d L) none (default : HIx 1) hN) $$ [Hfl HO Hmw]
  · isplitl [Hfl]; · iexact Hfl
    isplitl [HO]; · iexact HO
    iapply (Transfers.MayWaits.elim (SemLoc.dma sem)) $$ Hmw
  iintro ⟨HD, Hs, HO⟩
  rw [wp_ret]
  imodintro
  iapply Hk
  isplitl [HD]; · iexact HD
  isplitl [Hs]; · iexact Hs
  iexists _; isplitr
  swap; · iexact HO
  ipureintro
  intro p hp
  rcases Finset.mem_insert.mp hp with hp | hp
  · exact .inr (hp ▸ rfl)
  · exact hW' p hp

theorem out_start (n : ℕ) {Q : PUnit → sProp 𝕄} {hsrc hdst hsem} :
    iprop(Gathered d L I X R q n)
      ⊢ iprop((Outing d L I X q n -∗ Q ⟨⟩) -∗ wp frame (wpE (defs₀ (F := F)) 𝒱₀ (thr d L) none) Set.univ
          (.op (.enqueueDma (bufM (slot n)) (.here (outV L n)) (.dma (osemM (slot n))) hsrc hdst hsem) fun _ => .ret ⟨⟩) Q) := by
  unfold Gathered Outing fullP
  iintro ⟨⟨%g, %hg, Hb⟩, Ht, Hr, Ho, Hg, Hos⟩ Hk
  iapply (Transfers.wp_dmaLocal countersEmb 𝒱₀ (thr d L) none (default : HIx 1) NC rfl (by decide) (Finset.Subset.refl _)) $$ [Hb Ho Hos]
  · isplitl [Hb]; · iexact Hb
    isplitl [Ho]; · iexact Ho
    iexact Hos
  iintro Hfl
  rw [wp_ret]
  imodintro
  iapply Hk
  isplitl [Hfl]
  · iapply (Transfers.Flight_mono countersEmb (thr d L) (BIClass.sep_mono ?_ ?_)) $$ Hfl
    · refine Entails.of_eq (pointsTo_congr fun i hi => ?_)
      have e := out_written L I X n R i hi
      rw [← hg] at e
      exact e
    · unfold anyP
      iintro H
      iexists g; iexact H
  isplitl [Ht]; · iexact Ht
  isplitl [Hr]; · iexact Hr
  iexact Hg

/-! ## The whole state -/

/-- The pipeline's state: `a` gathers started, `b` awaited, `c` copies started, `e` awaited; the waits so far recorded. -/
def St (O : CellTallies nD τ sig (HIx 1)) (W : Waits sig (HIx 1)) (a b c e : ℕ) : sProp 𝕄 :=
  iprop((bigSep (Finset.Ico a 50) fun n => Todo d L I X R q n)
    ∗ (bigSep (Finset.Ico a (e + 5)) fun n => Free (F := F) d L n)
    ∗ (bigSep (Finset.Ico b a) fun n => Gathering d L I X R q n)
    ∗ (bigSep (Finset.Ico c b) fun n => Gathered d L I X R q n)
    ∗ (bigSep (Finset.Ico e c) fun n => Outing d L I X q n)
    ∗ (bigSep (Finset.Ico 0 e) fun n => Done d L I X q n)
    ∗ (∃ W', ⌜∀ p ∈ W', p ∈ W ∨ p.2 = none⌝ ∗ owes (thr d L) O W')
    ∗ Transfers.MayWaits (thr d L) (default : HIx 1) O)

variable (O : CellTallies nD τ sig (HIx 1)) (W : Waits sig (HIx 1)) (a b c e : ℕ)

/-- Starting the next gather. -/
theorem step_gather (j : Fin 5) (hj : a % 5 = j.val) (hI : InRange I) (h₁ : a < 50) (h₂ : a < e + 5) (h₃ : b ≤ a)
    {tv bm rv sm} (htv : tv = tabV) (hbm : bm = bufM j) (hrv : rv = rowV a) (hsm : sm = gsemM j)
    {Q : PUnit → sProp 𝕄} {hp hn hsrc he hsp hr} :
    St d L I X R q O W a b c e
      ⊢ iprop((St d L I X R q O W (a + 1) b c e -∗ Q ⟨⟩) -∗ wp frame (wpE (defs₀ (F := F)) 𝒱₀ (thr d L) none) Set.univ
          (SparseCore.enqueueIndirectGather hp tv bm gathers_S100000x128_S128x128 rv hn sm hsrc he hsp hr) Q) := by
  rw [← slot_eq hj] at hbm hsm
  subst htv hbm hrv hsm
  unfold St
  rw [bigSep_Ico_succ_bot h₁, bigSep_Ico_succ_bot h₂, bigSep_Ico_succ_top h₃]
  iintro ⟨⟨Ht, Hts⟩, ⟨Hf, Hfs⟩, Hg, Hr⟩ Hk
  iapply (gather_start d L I X R q hI a) $$ [Ht Hf]
  · isplitl [Ht]; · iexact Ht
    iexact Hf
  iintro H
  iapply Hk
  isplitl [Hts]; · iexact Hts
  isplitl [Hfs]; · iexact Hfs
  isplitl [H Hg]
  · isplitl [H]; · iexact H
    iexact Hg
  iexact Hr

/-- Awaiting the oldest gather. -/
theorem step_gathered (j : Fin 5) (hj : b % 5 = j.val) (h₁ : b < a) (h₂ : c ≤ b)
    {sm bm} (hbm : bm = bufM j) (hsm : sm = gsemM j) {src : Memref sig .scVector .hbm S100000x128 .f32}
    {Q : PUnit → sProp 𝕄} {hsrc hdst} :
    St d L I X R q O W a b c e
      ⊢ iprop((St d L I X R q O W a (b + 1) c e -∗ Q ⟨⟩) -∗ wp frame (wpE (defs₀ (F := F)) 𝒱₀ (thr d L) none) Set.univ
          (SparseCore.waitIndirectGather sm src bm hsrc hdst) Q) := by
  rw [← slot_eq hj] at hbm hsm
  subst hbm hsm
  unfold St SparseCore.waitIndirectGather
  rw [bigSep_Ico_succ_bot h₁, bigSep_Ico_succ_top h₂]
  unfold Gathering Gathered
  iintro ⟨Hts, Hfs, ⟨⟨Hfl, Ho, Hos⟩, Hg⟩, Hgd, Hou, Hd, HO, #Hmw⟩ Hk
  iapply (wait_flight d L (credit_buf _) O W) $$ [Hfl HO]
  · isplitl [Hfl]; · iexact Hfl
    isplitl [HO]; · iexact HO
    iexact Hmw
  iintro ⟨⟨Hb, Ht, Hr⟩, Hs, HO⟩
  iapply Hk
  isplitl [Hts]; · iexact Hts
  isplitl [Hfs]; · iexact Hfs
  isplitl [Hg]; · iexact Hg
  isplitl [Hb Ht Hr Ho Hs Hos Hgd]
  · isplitr [Hgd]
    · isplitl [Hb]; · iexact Hb
      isplitl [Ht]; · iexact Ht
      isplitl [Hr]; · iexact Hr
      isplitl [Ho]; · iexact Ho
      isplitl [Hs]; · iexact Hs
      iexact Hos
    iexact Hgd
  isplitl [Hou]; · iexact Hou
  isplitl [Hd]; · iexact Hd
  isplitl [HO]; · iexact HO
  iexact Hmw

/-- Starting the copy of the oldest gathered chunk to the output. -/
theorem step_out (j : Fin 5) (hj : c % 5 = j.val) (h₁ : c < b) (h₂ : e ≤ c)
    {bm ov sm} (hbm : bm = bufM j) (hov : ov = outV L c) (hsm : sm = osemM j)
    {Q : PUnit → sProp 𝕄} {hsrc hdst hsem} :
    St d L I X R q O W a b c e
      ⊢ iprop((St d L I X R q O W a b (c + 1) e -∗ Q ⟨⟩) -∗ wp frame (wpE (defs₀ (F := F)) 𝒱₀ (thr d L) none) Set.univ
          (Prog.lift (.enqueueDma bm (.here ov) (.dma sm) hsrc hdst hsem)) Q) := by
  rw [← slot_eq hj] at hbm hsm
  subst hbm hov hsm
  unfold St
  rw [bigSep_Ico_succ_bot h₁, bigSep_Ico_succ_top h₂]
  iintro ⟨Hts, Hfs, Hg, ⟨Hc, Hgd⟩, Hou, Hr⟩ Hk
  iapply (out_start d L I X R q c) $$ Hc
  iintro H
  iapply Hk
  isplitl [Hts]; · iexact Hts
  isplitl [Hfs]; · iexact Hfs
  isplitl [Hg]; · iexact Hg
  isplitl [Hgd]; · iexact Hgd
  isplitl [H Hou]
  · isplitl [H]; · iexact H
    iexact Hou
  iexact Hr

/-- Awaiting the oldest copy to the output: its chunk is done and its buffer free. -/
theorem step_done (j : Fin 5) (hj : e % 5 = j.val) (h₁ : e < c) (h₂ : a ≤ e + 5)
    {sm} (hsm : sm = osemM j) {bm : Memref sig .scVector .vmem S128x128 .f32} {ov : Memref sig .scVector .hbm S128x128 .f32}
    (hN : ov.view.dmaCredit = NC) {Q : PUnit → sProp 𝕄} {hsrc hdst} :
    St d L I X R q O W a b c e
      ⊢ iprop((St d L I X R q O W a b c (e + 1) -∗ Q ⟨⟩) -∗ wp frame (wpE (defs₀ (F := F)) 𝒱₀ (thr d L) none) Set.univ
          (Prog.lift (.waitDma2 sm bm ov hsrc hdst)) Q) := by
  rw [← slot_eq hj] at hsm
  subst hsm
  unfold St
  rw [bigSep_Ico_succ_bot h₁, bigSep_Ico_succ_top (Nat.zero_le e), show e + 1 + 5 = (e + 5) + 1 by omega, bigSep_Ico_succ_top h₂, Free_period]
  unfold Outing Done Free
  iintro ⟨Hts, Hfs, Hg, Hgd, ⟨⟨Hfl, Ht, Hr, Hgs⟩, Hou⟩, Hd, HO, #Hmw⟩ Hk
  iapply (wait_flight d L hN O W) $$ [Hfl HO]
  · isplitl [Hfl]; · iexact Hfl
    isplitl [HO]; · iexact HO
    iexact Hmw
  iintro ⟨⟨Ho, Hb⟩, Hs, HO⟩
  iapply Hk
  isplitl [Hts]; · iexact Hts
  isplitl [Hb Hgs Hs Hfs]
  · isplitr [Hfs]
    · isplitl [Hb]; · iexact Hb
      isplitl [Hgs]; · iexact Hgs
      iexact Hs
    iexact Hfs
  isplitl [Hg]; · iexact Hg
  isplitl [Hgd]; · iexact Hgd
  isplitl [Hou]; · iexact Hou
  isplitl [Ht Hr Ho Hd]
  · isplitr [Hd]
    · isplitl [Ht]; · iexact Ht
      isplitl [Hr]; · iexact Hr
      iexact Ho
    iexact Hd
  isplitl [HO]; · iexact HO
  iexact Hmw

end Chunk

end Cert.Proof.Lookup

end
-- ==== Proof.Body.lean ====
/-
  One subcore's program, walked through the pipeline's steps.
-/
module

public import proofs.«01_k».proof.Proof.State

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (I : S50x4096.Idx → Elt F .i32) (X : S100000x128.Idx → Elt F .f32)
  (R : S204800x128.Idx → Elt F .f32) (q : ℕ → PosShare TreeShare) (O : CellTallies nD τ sig (HIx 1)) (W : Waits sig (HIx 1))

/-- In trip `t`, position `r` of the loop, the copy started is chunk `5 t + 2 + r`'s. -/
theorem loop_out (t : Fin k0_t1_loop.trips) (r : Fin 5) :
    resV.slice (Rect.unit (s := S204800x128) (k0_off3 L t (BitVec.ofNat 32 r.val) 3#32) S128x128.size (k0_off3_inb L t r 0)) (fun _ => rfl)
      = outV L (5 * t.val + 2 + r.val) := by
  have ht : t.val < 9 := lt_of_lt_of_le t.isLt k0_t1_abs.2.1
  have hr := r.isLt
  refine out_window L _ _ (by omega) ?_
  refine (k0_off3_eq L t r 0).trans ?_
  have e : 20480 * t.val + 4096 * r.val + 256 * (L 1).val + 128 * (L 0).val + 8192 - 8192 * (0 : Fin 2).val
      = 4096 * (5 * t.val + 2 + r.val) + base L := by
    show 20480 * t.val + 4096 * r.val + 256 * (L 1).val + 128 * (L 0).val + 8192 - 8192 * 0 = _
    unfold base; omega
  rw [e]

/-- In trip `t`, position `r` of the loop, the gather started reads chunk `5 t + 5 + r`'s list. -/
theorem loop_row (t : Fin k0_t1_loop.trips) (r : Fin 5) :
    (lstV.slice (Rect.unit (s := S50x128) (k0_off4 t (BitVec.ofNat 32 r.val)) S1x128.size (k0_off4_inb t r)) (fun _ => rfl)).squeeze
        S128 squeezes_S1x128_S128 = rowV (5 * t.val + 5 + r.val) := by
  have ht : t.val < 9 := lt_of_lt_of_le t.isLt k0_t1_abs.2.1
  have hr := r.isLt
  refine row_window _ _ (by omega) ((k0_off4_eq t r).trans ?_)
  rw [show 5 * t.val + r.val + 5 = 5 * t.val + 5 + r.val by omega]

set_option maxHeartbeats 1000000 in
/-- One trip: five chunks further through every step. -/
theorem loop_body (hI : InRange I) (v2 : BitVec 32) (t : Fin k0_t1_loop.trips) (acc : Unit) :
    St d L I X R q O W (5 * t.val + 5) (5 * t.val + 2) (5 * t.val + 2) (5 * t.val)
      ⊢ wp frame (wpE (defs₀ (F := F)) 𝒱₀ (thr d L) none) Set.univ
          (k0_t1_body L posV (Memref.isWhole_whole _) tblV (Memref.isWhole_whole _) resV (Memref.isWhole_whole _) lstV (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8 cc0_scratch9 cc0_scratch10
            cc0_scratch11 cc0_scratch12 cc0_scratch13 cc0_scratch14 cc0_scratch15 cc0_scoped0 v2 t acc)
          fun _ => St d L I X R q O W (5 * (t.val + 1) + 5) (5 * (t.val + 1) + 2) (5 * (t.val + 1) + 2) (5 * (t.val + 1)) := by
  have ht : t.val < 9 := lt_of_lt_of_le t.isLt k0_t1_abs.2.1
  unfold k0_t1_body
  simp only [k0_part1_eq_skeleton, k0_part2_eq_skeleton, k0_part3_eq_skeleton]
  unfold k0_part1_skel k0_part2_skel k0_part3_skel
  simp only [wp_bind, wp_pure]
  iintro HS
  iapply (step_done d L I X R q O W _ _ _ _ 0 (by omega) (by omega) (by omega) rfl rfl) $$ HS
  iintro HS
  iapply (step_gather d L I X R q O W _ _ _ _ 0 (by omega) hI (by omega) (by omega) (by omega) rfl rfl (loop_row t 0) rfl) $$ HS
  iintro HS
  iapply (step_gathered d L I X R q O W _ _ _ _ 2 (by omega) (by omega) (by omega) rfl rfl) $$ HS
  iintro HS
  iapply (step_out d L I X R q O W _ _ _ _ 2 (by omega) (by omega) (by omega) rfl (loop_out L t 0) rfl) $$ HS
  iintro HS
  iapply (step_done d L I X R q O W _ _ _ _ 1 (by omega) (by omega) (by omega) rfl rfl) $$ HS
  iintro HS
  iapply (step_gather d L I X R q O W _ _ _ _ 1 (by omega) hI (by omega) (by omega) (by omega) rfl rfl (loop_row t 1) rfl) $$ HS
  iintro HS
  imodintro
  iapply (step_gathered d L I X R q O W _ _ _ _ 3 (by omega) (by omega) (by omega) rfl rfl) $$ HS
  iintro HS
  iapply (step_out d L I X R q O W _ _ _ _ 3 (by omega) (by omega) (by omega) rfl (loop_out L t 1) rfl) $$ HS
  iintro HS
  iapply (step_done d L I X R q O W _ _ _ _ 2 (by omega) (by omega) (by omega) rfl rfl) $$ HS
  iintro HS
  iapply (step_gather d L I X R q O W _ _ _ _ 2 (by omega) hI (by omega) (by omega) (by omega) rfl rfl (loop_row t 2) rfl) $$ HS
  iintro HS
  iapply (step_gathered d L I X R q O W _ _ _ _ 4 (by omega) (by omega) (by omega) rfl rfl) $$ HS
  iintro HS
  iapply (step_out d L I X R q O W _ _ _ _ 4 (by omega) (by omega) (by omega) rfl (loop_out L t 2) rfl) $$ HS
  iintro HS
  imodintro
  iapply (step_done d L I X R q O W _ _ _ _ 3 (by omega) (by omega) (by omega) rfl rfl) $$ HS
  iintro HS
  iapply (step_gather d L I X R q O W _ _ _ _ 3 (by omega) hI (by omega) (by omega) (by omega) rfl rfl (loop_row t 3) rfl) $$ HS
  iintro HS
  iapply (step_gathered d L I X R q O W _ _ _ _ 0 (by omega) (by omega) (by omega) rfl rfl) $$ HS
  iintro HS
  iapply (step_out d L I X R q O W _ _ _ _ 0 (by omega) (by omega) (by omega) rfl (loop_out L t 3) rfl) $$ HS
  iintro HS
  iapply (step_done d L I X R q O W _ _ _ _ 4 (by omega) (by omega) (by omega) rfl rfl) $$ HS
  iintro HS
  iapply (step_gather d L I X R q O W _ _ _ _ 4 (by omega) hI (by omega) (by omega) (by omega) rfl rfl (loop_row t 4) rfl) $$ HS
  iintro HS
  iapply (step_gathered d L I X R q O W _ _ _ _ 1 (by omega) (by omega) (by omega) rfl rfl) $$ HS
  iintro HS
  imodintro
  iapply (step_out d L I X R q O W _ _ _ _ 1 (by omega) (by omega) (by omega) rfl (loop_out L t 4) rfl) $$ HS
  iintro HS
  imodintro
  iexact HS

/-- The offsets written as constants: window `r` of the seven is chunk `n`'s. -/
theorem const_out (r : Fin 7) (n : ℕ) (hn : n < 50) (h : (k0_off2_at r).toNat = 4096 * n) :
    resV.slice (Rect.unit (s := S204800x128) (k0_off2 L (k0_off2_at r)) S128x128.size (k0_off2_inb L r)) (fun _ => rfl) = outV L n :=
  out_window L _ n hn (by rw [off2_closed, h]; rfl)

/-! ## Before and after the pipeline -/

/-- The index scratch whole is its 50 rows. -/
theorem list_rows (f : S50x128.Idx → Elt F .i32) :
    (lstV.view.loc (thr d L) ↦{fullShare} f : sProp 𝕄)
      = bigSep (Finset.Ico 0 50) fun n => (rowV n).view.loc (thr d L) ↦[(rowV n).view.set]{fullShare} f := by
  have hcov : (Finset.Ico 0 50).biUnion (fun n => ((rowV n).view.set : Finset S50x128.Idx)) = Finset.univ :=
    Finset.eq_univ_of_forall fun i => Finset.mem_biUnion.mpr ⟨(i 0).val, Finset.mem_Ico.mpr ⟨Nat.zero_le _, (i 0).isLt⟩,
      (mem_rowV _ i).mpr (Nat.mod_eq_of_lt (i 0).isLt).symm⟩
  have hdis : ∀ n ∈ Finset.Ico 0 50, ∀ k ∈ Finset.Ico 0 50, n ≠ k →
      Disjoint ((rowV n).view.set : Finset S50x128.Idx) ((rowV k).view.set : Finset S50x128.Idx) := by
    intro n hn k hk hne
    refine Finset.disjoint_left.mpr fun i hi hi' => hne ?_
    have h1 := (mem_rowV n i).mp hi
    have h2 := (mem_rowV k i).mp hi'
    rw [Nat.mod_eq_of_lt (Finset.mem_Ico.mp hn).2] at h1
    rw [Nat.mod_eq_of_lt (Finset.mem_Ico.mp hk).2] at h2
    exact h1.symm.trans h2
  have h := pointsTo_biUnion (Val := Elt F) (Ix := HIx 1) (Name := ℕ) (U := UU) (Lvl := ℕ) (q := fullShare) (f := f) (Finset.Ico 0 50)
    (ℓ := lstV.view.loc (thr d L)) (fun n => ((rowV n).view.set : Finset S50x128.Idx)) hdis
  rw [hcov] at h
  exact h

/-- The subcore's block of the index array. -/
abbrev colP : sProp 𝕄 := (colV L).view.loc (thr d L) ↦[(colV L).view.set]{fullShare} I
/-- The index scratch at contents `f`, and the semaphore of its fetch at zero. -/
abbrev listP (f : S50x128.Idx → Elt F .i32) : sProp 𝕄 := lstV.view.loc (thr d L) ↦{fullShare} f
abbrev fsemP : sProp 𝕄 := semVal (thr d L, SemLoc.dma cc0_scoped0.sem) 0
/-- The waits recorded so far, each an old one or one of the subcore's own. -/
abbrev owesP : sProp 𝕄 := iprop(∃ W', ⌜∀ p ∈ W', p ∈ W ∨ p.2 = none⌝ ∗ owes (thr d L) O W')
/-- The subcore's shares of the table and its windows of the output, these at contents `f`. -/
abbrev chunksP (f : S204800x128.Idx → Elt F .f32) : sProp 𝕄 :=
  bigSep (Finset.Ico 0 50) fun n => iprop(tokP d L X q n ∗ outP d L n f)
/-- The five row buffers, free. -/
abbrev buffersP : sProp 𝕄 := bigSep (Finset.Ico 0 5) fun n => Free (F := F) d L n

theorem St_init :
    iprop(listP d L (fetched L I) ∗ chunksP d L X q R ∗ buffersP (F := F) d L ∗ owesP (F := F) d L O W ∗ Transfers.MayWaits (thr d L) (default : HIx 1) O)
      ⊢ St d L I X R q O W 0 0 0 0 := by
  unfold St listP chunksP buffersP Todo
  rw [list_rows, Nat.zero_add]
  simp only [Finset.Ico_self, bigSep_empty, bigSep_sep']
  iintro ⟨Hr, ⟨Ht, Ho⟩, Hf, HO, Hmw⟩
  isplitl [Hr Ht Ho]
  · isplitl [Ht]; · iexact Ht
    isplitl [Hr]; · iexact Hr
    iexact Ho
  isplitl [Hf]; · iexact Hf
  isplitr; · iempintro
  isplitr; · iempintro
  isplitr; · iempintro
  isplitr; · iempintro
  isplitl [HO]; · iexact HO
  iexact Hmw

theorem St_final :
    St d L I X R q O W 50 50 50 50
      ⊢ iprop(listP d L (fetched L I) ∗ chunksP d L X q (lookup I X) ∗ buffersP (F := F) d L ∗ owesP (F := F) d L O W) := by
  unfold St listP chunksP buffersP Done
  rw [list_rows]
  have hF : (bigSep (Finset.Ico 50 (50 + 5)) fun n => Free (F := F) d L n) = bigSep (Finset.Ico 0 5) fun n => Free (F := F) d L n := by
    have h (n : ℕ) : Free (F := F) d L (n + 50) = Free d L n := by
      unfold Free
      rw [show slot (n + 50) = slot n from Fin.ext (by simp only [slot]; omega)]
    rw [show Finset.Ico 50 (50 + 5) = (Finset.Ico 0 5).map (addRightEmbedding 50) by decide, bigSep_map]
    exact bigSep_congr fun n _ => h n
  rw [hF]
  simp only [bigSep_sep']
  iintro ⟨-, Hf, -, -, -, ⟨Ht, Hr, Ho⟩, HO, -⟩
  isplitl [Hr]; · iexact Hr
  isplitl [Ht Ho]
  · isplitl [Ht]; · iexact Ht
    iexact Ho
  isplitl [Hf]; · iexact Hf
  iexact HO

/-- The fetch of the subcore's indices, in flight. -/
def Fetching : sProp 𝕄 :=
  Transfers.Flight countersEmb (thr d L) (.dma cc0_scoped0.sem) (default : HIx 1) 204800 iprop(listP d L (fetched L I) ∗ colP d L I)

theorem fetch_start {cv lm sm} (hcv : cv = colV L) (hlm : lm = lstV) (hsm : sm = cc0_scoped0.sem) {Q : PUnit → sProp 𝕄} {hsrc hdst hsem} :
    iprop(colP d L I ∗ (∃ f, listP (F := F) d L f) ∗ fsemP (F := F) d L)
      ⊢ iprop((Fetching d L I -∗ Q ⟨⟩) -∗ wp frame (wpE (defs₀ (F := F)) 𝒱₀ (thr d L) none) Set.univ
          (Prog.lift (.enqueueDma cv (.here lm) (.dma sm) hsrc hdst hsem)) Q) := by
  subst hcv hlm hsm
  unfold Fetching
  iintro ⟨Hcol, ⟨%f, Hl⟩, Hs⟩ HK
  iapply (Transfers.wp_dmaLocal countersEmb 𝒱₀ (thr d L) none (default : HIx 1) 204800 rfl (by decide) (Finset.subset_univ _)) $$ [Hcol Hl Hs]
  · isplitl [Hcol]; · iexact Hcol
    isplitl [Hl]; · iexact Hl
    iexact Hs
  iintro Hfl
  rw [wp_ret]
  imodintro
  iapply HK
  iapply (Transfers.Flight_mono countersEmb (thr d L) (sep_mono_left (Entails.of_eq ?_))) $$ Hfl
  congr 1
  exact View.write_whole_univ _ _ _

theorem fetch_wait {cv : Memref sig .scVector .hbm S50x128 .i32} {lm sm} (hlm : lm = lstV) (hsm : sm = cc0_scoped0.sem) {Q : PUnit → sProp 𝕄} {hsrc hdst} :
    iprop(Fetching d L I ∗ owesP (F := F) d L O W ∗ Transfers.MayWaits (thr d L) (default : HIx 1) O)
      ⊢ iprop(((listP d L (fetched L I) ∗ colP d L I) ∗ fsemP (F := F) d L ∗ owesP (F := F) d L O W -∗ Q ⟨⟩)
        -∗ wp frame (wpE (defs₀ (F := F)) 𝒱₀ (thr d L) none) Set.univ (Prog.lift (.waitDma2 sm cv lm hsrc hdst)) Q) := by
  subst hlm hsm
  unfold Fetching
  exact wait_flight d L (N := 204800) rfl O W

set_option maxHeartbeats 1000000 in
/-- The whole program of a subcore: from its block of the index array, its shares of the table and its windows of the
    output, its scratch and its semaphores, to the same with `lookup` in the windows. -/
theorem program (hI : InRange I) :
    iprop(colP d L I ∗ (∃ f, listP (F := F) d L f) ∗ fsemP (F := F) d L ∗ chunksP d L X q R ∗ buffersP (F := F) d L
        ∗ owesP (F := F) d L O W ∗ Transfers.MayWaits (thr d L) (default : HIx 1) O)
      ⊢ wp frame (wpE (defs₀ (F := F)) 𝒱₀ (thr d L) none) Set.univ
          (cc0__embedding_lookup L posV (Memref.isWhole_whole _) tblV (Memref.isWhole_whole _) resV (Memref.isWhole_whole _) lstV (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8 cc0_scratch9 cc0_scratch10
            cc0_scratch11 cc0_scratch12 cc0_scratch13 cc0_scratch14 cc0_scratch15 cc0_scoped0)
          fun _ => iprop(colP d L I ∗ (∃ f, listP (F := F) d L f) ∗ fsemP (F := F) d L ∗ chunksP d L X q (lookup I X) ∗ buffersP (F := F) d L
            ∗ owesP (F := F) d L O W) := by
  simp only [cc0__embedding_lookup_eq_skeleton]
  unfold cc0__embedding_lookup_skel
  simp only [k0_part4_eq_skeleton, k0_part5_eq_skeleton]
  unfold k0_part4_skel k0_part5_skel
  simp only [wp_bind, wp_pure]
  iintro ⟨Hcol, Hl, Hfs, Hch, Hbf, HO, #Hmw⟩
  iapply (fetch_start d L I (col_window L) rfl rfl) $$ [Hcol Hl Hfs]
  · isplitl [Hcol]; · iexact Hcol
    isplitl [Hl]; · iexact Hl
    iexact Hfs
  iintro Hfl
  iapply (fetch_wait d L I O W rfl rfl) $$ [Hfl HO]
  · isplitl [Hfl]; · iexact Hfl
    isplitl [HO]; · iexact HO
    iexact Hmw
  iintro ⟨⟨Hl, Hcol⟩, Hfs, HO⟩
  ihave HS := (St_init d L I X R q O W) $$ [Hl Hch Hbf HO]
  · isplitl [Hl]; · iexact Hl
    isplitl [Hch]; · iexact Hch
    isplitl [Hbf]; · iexact Hbf
    isplitl [HO]; · iexact HO
    iexact Hmw
  iapply (step_gather d L I X R q O W _ _ _ _ 0 (by omega) hI (by omega) (by omega) (by omega) rfl rfl (row_window _ 0 (by decide) rfl) rfl) $$ HS
  iintro HS
  iapply (step_gather d L I X R q O W _ _ _ _ 1 (by omega) hI (by omega) (by omega) (by omega) rfl rfl (row_window _ 1 (by decide) rfl) rfl) $$ HS
  iintro HS
  iapply (step_gather d L I X R q O W _ _ _ _ 2 (by omega) hI (by omega) (by omega) (by omega) rfl rfl (row_window _ 2 (by decide) rfl) rfl) $$ HS
  iintro HS
  iapply (step_gather d L I X R q O W _ _ _ _ 3 (by omega) hI (by omega) (by omega) (by omega) rfl rfl (row_window _ 3 (by decide) rfl) rfl) $$ HS
  iintro HS
  iapply (step_gathered d L I X R q O W _ _ _ _ 0 (by omega) (by omega) (by omega) rfl rfl) $$ HS
  iintro HS
  imodintro
  iapply (step_out d L I X R q O W _ _ _ _ 0 (by omega) (by omega) (by omega) rfl (const_out L 0 0 (by decide) rfl) rfl) $$ HS
  iintro HS
  iapply (step_gather d L I X R q O W _ _ _ _ 4 (by omega) hI (by omega) (by omega) (by omega) rfl rfl (row_window _ 4 (by decide) rfl) rfl) $$ HS
  iintro HS
  iapply (step_gathered d L I X R q O W _ _ _ _ 1 (by omega) (by omega) (by omega) rfl rfl) $$ HS
  iintro HS
  iapply (step_out d L I X R q O W _ _ _ _ 1 (by omega) (by omega) (by omega) rfl (const_out L 1 1 (by decide) rfl) rfl) $$ HS
  iintro HS
  iapply (Scf.wp_for _ _ _ _ _ _ _ _ _ (fun t _ => St d L I X R q O W (5 * t + 5) (5 * t + 2) (5 * t + 2) (5 * t)) (loop_body d L I X R q O W hI _))
  isplitl [HS]; · iexact HS
  iintro %acc HS
  rw [show Scf.trips k0_t1_loop.lb k0_t1_loop.ub k0_t1_loop.st = 9 by decide]
  iapply (step_gathered d L I X R q O W _ _ _ _ 2 (by omega) (by omega) (by omega) rfl rfl) $$ HS
  iintro HS
  iapply (step_out d L I X R q O W _ _ _ _ 2 (by omega) (by omega) (by omega) rfl (const_out L 2 47 (by decide) rfl) rfl) $$ HS
  iintro HS
  iapply (step_gathered d L I X R q O W _ _ _ _ 3 (by omega) (by omega) (by omega) rfl rfl) $$ HS
  iintro HS
  imodintro
  iapply (step_out d L I X R q O W _ _ _ _ 3 (by omega) (by omega) (by omega) rfl (const_out L 3 48 (by decide) rfl) rfl) $$ HS
  iintro HS
  iapply (step_gathered d L I X R q O W _ _ _ _ 4 (by omega) (by omega) (by omega) rfl rfl) $$ HS
  iintro HS
  iapply (step_out d L I X R q O W _ _ _ _ 4 (by omega) (by omega) (by omega) rfl (const_out L 4 49 (by decide) rfl) rfl) $$ HS
  iintro HS
  iapply (step_done d L I X R q O W _ _ _ _ 0 (by omega) (by omega) (by omega) rfl rfl) $$ HS
  iintro HS
  iapply (step_done d L I X R q O W _ _ _ _ 1 (by omega) (by omega) (by omega) rfl rfl) $$ HS
  iintro HS
  iapply (step_done d L I X R q O W _ _ _ _ 2 (by omega) (by omega) (by omega) rfl rfl) $$ HS
  iintro HS
  iapply (step_done d L I X R q O W _ _ _ _ 3 (by omega) (by omega) (by omega) rfl rfl) $$ HS
  iintro HS
  iapply (step_done d L I X R q O W _ _ _ _ 4 (by omega) (by omega) (by omega) rfl rfl) $$ HS
  iintro HS
  imodintro
  ihave HS := (St_final d L I X R q O W) $$ HS
  icases HS with ⟨Hl, Hch, Hbf, HO⟩
  isplitl [Hcol]; · iexact Hcol
  isplitl [Hl]; · iexists _; iexact Hl
  isplitl [Hfs]; · iexact Hfs
  isplitl [Hch]; · iexact Hch
  isplitl [Hbf]; · iexact Hbf
  iexact HO

end Cert.Proof.Lookup

end
-- ==== Proof.Launch.lean ====
/-
  The launch of the lookup kernel: what the host hands each subcore and gets back, and that each subcore keeps its word.

  A subcore is handed its block of the index array, fifty shares of the table and its fifty windows of the output
  (`taskP`); it hands back the same with `lookup` in the windows. Its scratch and its semaphores are its own.
-/
module

public import proofs.«01_k».proof.Proof.Body

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem core_two : ∀ q : Fin 1, (K (F := F)).nCore q = 2 := fun | 0 => rfl
theorem sub_sixteen : ∀ q : Fin 1, (K (F := F)).nSub q = 16 := fun | 0 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ)

/-! ## The arrays at the call -/

/-- The index array the kernel reads: the argument transposed, one row per history position. -/
def positions (d : Dev nD) : S50x4096.Idx → Elt F .i32 :=
  transpose S50x4096 [1, 0] (m ((SparseCore.T d).loc main_arg0)) transposes_S4096x50_S50x4096_1_0
/-- The table, and the kernel's output array before the call. -/
abbrev table (d : Dev nD) : S100000x128.Idx → Elt F .f32 := m ((SparseCore.T d).loc main_arg1)
abbrev before (d : Dev nD) : S204800x128.Idx → Elt F .f32 := m ((SparseCore.T d).loc main_v1)
/-- The kernel's output array after the call. -/
abbrev after (d : Dev nD) : S204800x128.Idx → Elt F .f32 := lookup (positions m d) (table m d)

/-- Task `(c, s)` of the grid. -/
def coordsV (c : Fin 2) (s : Fin 16) : grid0.Coords :=
  fun | 0 => c | 1 => s | ⟨_ + 2, h⟩ => absurd h (Nat.not_lt.2 (Nat.le_add_left _ _))

/-- The share of the table that chunk `n` of task `(c, s)` reads: a fiftieth of a sixteenth of a half. -/
def share (c : Fin 2) (s : Fin 16) (n : ℕ) : PosShare TreeShare :=
  pieceOf (pieceOf (pieceOf fullShare 2 (by decide) c) 16 (by decide) s) 50 (by decide)
    ⟨n % 50, Nat.mod_lt _ (by decide)⟩

/-- What task `(c, s)` is handed, and hands back: its block of the index array, its shares of the table, its windows of
    the output, these at contents `f`. -/
abbrev taskP (d : Dev nD) (c : Fin 2) (s : Fin 16) (f : S204800x128.Idx → Elt F .f32) : sProp 𝕄 :=
  iprop(colP d (coordsV c s) (positions m d) ∗ chunksP d (coordsV c s) (table m d) (share c s) f)

/-- The one call's operands, by SparseCore and by task. -/
def P : (K (F := F)).Pay (nD := nD) (Val := Elt F) (Name := ℕ) (U := UU) where
  st := fun q d c => bigSep Finset.univ fun s : Fin ((K (F := F)).nSub q) =>
    taskP m d (Fin.cast (core_two q) c) (Fin.cast (sub_sixteen q) s) (before m d)
  dn := fun q d c => bigSep Finset.univ fun s : Fin ((K (F := F)).nSub q) =>
    taskP m d (Fin.cast (core_two q) c) (Fin.cast (sub_sixteen q) s) (after m d)
  go := fun q d c s => taskP m d (Fin.cast (core_two q) c) (Fin.cast (sub_sixteen q) s) (before m d)
  td := fun q d c s => taskP m d (Fin.cast (core_two q) c) (Fin.cast (sub_sixteen q) s) (after m d)
  x := fun _ _ => iprop(emp)

theorem pointsTo_storable (ℓ : Loc nD τ sig) (A : Finset (Idx ℓ)) (q : PosShare TreeShare) (f : Buf (Elt F) ℓ) :
    BI.Storable (upEmb : UEmb _ 𝕄) (ℓ ↦[A]{q} f) := inferInstance

instance taskP_storable (d : Dev nD) (c : Fin 2) (s : Fin 16) (f : S204800x128.Idx → Elt F .f32) :
    BI.Storable (upEmb : UEmb _ 𝕄) (taskP m d c s f) := by
  have h1 : BI.Storable (upEmb : UEmb _ 𝕄) (colP d (coordsV c s) (positions m d)) := pointsTo_storable _ _ _ _
  have h2 (n : ℕ) : BI.Storable (upEmb : UEmb _ 𝕄) (tokP d (coordsV c s) (table m d) (share c s) n) := pointsTo_storable _ _ _ _
  have h3 (n : ℕ) : BI.Storable (upEmb : UEmb _ 𝕄) (outP d (coordsV c s) n f) := pointsTo_storable _ _ _ _
  infer_instance

instance P_storable : (P (F := F) m).IsStorable where
  st q d c := (inferInstance : BI.Storable (upEmb : UEmb _ 𝕄) (bigSep Finset.univ fun s : Fin ((K (F := F)).nSub q) =>
    taskP m d (Fin.cast (core_two q) c) (Fin.cast (sub_sixteen q) s) (before m d)))
  dn q d c := (inferInstance : BI.Storable (upEmb : UEmb _ 𝕄) (bigSep Finset.univ fun s : Fin ((K (F := F)).nSub q) =>
    taskP m d (Fin.cast (core_two q) c) (Fin.cast (sub_sixteen q) s) (after m d)))
  go q d c s := taskP_storable m d (Fin.cast (core_two q) c) (Fin.cast (sub_sixteen q) s) (before m d)
  td q d c s := taskP_storable m d (Fin.cast (core_two q) c) (Fin.cast (sub_sixteen q) s) (after m d)

theorem hand_over (A B : sProp 𝕄) : A ⊢ |={Set.univ}=> iprop(A ∗ (B -∗ B)) := by
  iintro H; imodintro
  isplitl [H]; · iexact H
  iintro H; iexact H

/-- A SparseCore's operands are its tasks', before and after. -/
theorem vecSplit : (K (F := F)).VecSplit' (P m) 0 := fun _ _ => hand_over _ _

/-! ## A subcore's own scratch and semaphores -/

/-- The members of `s` that `f` names, apart from the others. -/
theorem bigSep_named {A B : Type} [Fintype A] [DecidableEq B] {s : Finset B} (f : A ↪ B) (h : ∀ a, f a ∈ s) (Φ : B → sProp 𝕄) :
    bigSep s Φ = iprop((bigSep Finset.univ fun a => Φ (f a)) ∗ bigSep (s \ Finset.univ.map f) Φ) := by
  rw [SparseCore.bigSep_sdiff_split' (t := Finset.univ.map f) (fun b hb => by
    obtain ⟨a, -, rfl⟩ := Finset.mem_map.mp hb; exact h a), bigSep_map]

/-- The index scratch and the five row buffers. -/
def scratchRef : Unit ⊕ Fin 5 → Ref sig .scVector
  | .inl _ => cc0_scratch0
  | .inr 0 => cc0_scratch1
  | .inr 1 => cc0_scratch2
  | .inr 2 => cc0_scratch3
  | .inr 3 => cc0_scratch4
  | .inr 4 => cc0_scratch5

/-- The semaphores of the index fetch, of the gathers, of the copies to the output. -/
def scratchSem : Unit ⊕ (Fin 5 ⊕ Fin 5) → DmaSem sig
  | .inl _ => cc0_scoped0.sem
  | .inr (.inl j) => gsemM j
  | .inr (.inr j) => osemM j

theorem scratchRef_injective : Function.Injective scratchRef := by decide
theorem scratchSem_injective : Function.Injective scratchSem := by decide
theorem scratchSem_scoped : ∀ a, (SemLoc.dma (scratchSem a) : SemLoc sig).isScoped .scVector = true := by decide

section Tile

variable (d : Dev nD) (L : grid0.Coords)

def refEmb : Unit ⊕ Fin 5 ↪ DevRef τ sig :=
  ⟨fun a => (Proc.scVector (cV L) (jV L)).devRef (scratchRef a), fun _ _ h => scratchRef_injective (Proc.devRef_injective _ h)⟩
def semEmb : Unit ⊕ (Fin 5 ⊕ Fin 5) ↪ GSem nD τ sig :=
  ⟨fun a => (thr d L, SemLoc.dma (scratchSem a)), fun _ _ h => scratchSem_injective (SemLoc.dma.inj (Prod.mk.inj h).2)⟩

/-- The subcore's other buffers, and its other semaphores, untouched. -/
abbrev otherBufs : sProp 𝕄 :=
  bigSep (ownRefs (τ := τ) (.scVector (cV L) (jV L)) \ Finset.univ.map (refEmb L)) fun b => iprop(∃ f, ((d, b) : Loc nD τ sig) ↦{fullShare} f)
abbrev otherSems : sProp 𝕄 := bigSep (ownCells (thr d L) \ Finset.univ.map (semEmb d L)) fun g => semVal g 0

theorem anyP_eq (j : Fin 5) :
    (iprop(∃ f, ((d, refEmb L (.inr j)) : Loc nD τ sig) ↦{fullShare} f) : sProp 𝕄) = anyP d L j := by
  unfold anyP bufP
  match j with
  | 0 | 1 | 2 | 3 | 4 => rw [bufM_set]; rfl

theorem ownBufs_split :
    (ownBufs (thr d L) : sProp 𝕄)
      = iprop(((∃ f, listP d L f) ∗ bigSep Finset.univ fun j : Fin 5 => anyP (F := F) d L j) ∗ otherBufs (F := F) d L) := by
  unfold SparseCore.Cfg.ownBufs
  refine (bigSep_named (refEmb L) (fun a => SparseCore.Cfg.mem_ownRefs_of_owner (by
    match a with
    | .inl _ | .inr 0 | .inr 1 | .inr 2 | .inr 3 | .inr 4 => rfl)) _).trans ?_
  rw [bigSep_univ_sum, bigSep_univ_of_subsingleton ()]
  simp only [anyP_eq]
  rfl

theorem ownSems_split :
    (ownSems0 (thr d L) : sProp 𝕄)
      = iprop((fsemP d L ∗ (bigSep Finset.univ fun j : Fin 5 => gsemP (F := F) d L j) ∗ bigSep Finset.univ fun j : Fin 5 => osemP (F := F) d L j)
          ∗ otherSems (F := F) d L) := by
  unfold SparseCore.Cfg.ownSems0
  refine (bigSep_named (semEmb d L) (fun a => mem_ownCells.mpr ⟨rfl, scratchSem_scoped a⟩) _).trans ?_
  rw [bigSep_univ_sum, bigSep_univ_of_subsingleton (), bigSep_univ_sum]
  rfl

/-- The five row buffers with their semaphores, gathered by kind. -/
theorem buffers_eq :
    (buffersP d L : sProp 𝕄)
      = iprop((bigSep Finset.univ fun j : Fin 5 => anyP (F := F) d L j) ∗ (bigSep Finset.univ fun j : Fin 5 => gsemP (F := F) d L j)
          ∗ bigSep Finset.univ fun j : Fin 5 => osemP (F := F) d L j) := by
  unfold buffersP
  rw [show Finset.Ico 0 5 = (Finset.univ : Finset (Fin 5)).map Fin.valEmbedding by decide, bigSep_map, ← bigSep_sep', ← bigSep_sep']
  refine bigSep_congr fun j _ => ?_
  unfold Free
  rw [show slot (Fin.valEmbedding j) = j from slot_eq (Nat.mod_eq_of_lt j.isLt)]

variable [FloatOps F]

/-- One task's run, from what the launch gives it. -/
theorem task_run (I : S50x4096.Idx → Elt F .i32) (X : S100000x128.Idx → Elt F .f32) (R : S204800x128.Idx → Elt F .f32) (q : ℕ → PosShare TreeShare)
    (hF : (K (F := F)).Facts) (hI : InRange I) (O : CellTallies nD τ sig (HIx 1)) (W : Waits sig (HIx 1)) (hO : ∀ g, O g none = 0) :
    iprop(levAts (K (F := F)).L (K (F := F)).lev ∗ emp ∗ (colP d L I ∗ chunksP d L X q R)
        ∗ scopedBufs (thr d L) ∗ scopedSems0 (thr d L) ∗ owes (thr d L) O W)
      ⊢ wp frame (wpE (defs₀ (F := F)) 𝒱₀ (thr d L) none) Set.univ
          (cc0__embedding_lookup L posV (Memref.isWhole_whole _) tblV (Memref.isWhole_whole _) resV (Memref.isWhole_whole _) lstV (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8 cc0_scratch9 cc0_scratch10
            cc0_scratch11 cc0_scratch12 cc0_scratch13 cc0_scratch14 cc0_scratch15 cc0_scoped0)
          fun _ => iprop((colP d L I ∗ chunksP d L X q (lookup I X)) ∗ scopedBufs (thr d L) ∗ scopedSems0 (thr d L)
            ∗ ∃ W', ⌜∀ p ∈ W', p ∈ W ∨ p.2 = none ∨ p.2 = some 0⌝ ∗ owes (thr d L) O W') := by
  rw [(K (F := F)).scopedBufs_V hF d (cV L) (jV L), SparseCore.Cfg.scopedSems0_V (Val := Elt F) d (cV L) (jV L), ownSems_split, ownBufs_split]
  iintro ⟨#Hlv, -, ⟨Hcol, Hch⟩, ⟨⟨Hl, Hany⟩, Hbufs⟩, ⟨⟨Hfs, Hg, Ho⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hb := (Entails.of_eq (buffers_eq (F := F) d L).symm) $$ [Hany Hg Ho]
  · isplitl [Hany]; · iexact Hany
    isplitl [Hg] <;> iassumption
  ihave Hwp := (program d L I X R q O W hI) $$ [Hcol Hl Hfs Hch Hb HO]
  · isplitl [Hcol]; · iexact Hcol
    isplitl [Hl]; · iexact Hl
    isplitl [Hfs]; · iexact Hfs
    isplitl [Hch]; · iexact Hch
    isplitl [Hb]; · iexact Hb
    isplitl [HO]
    · iexists W
      isplitr; · ipureintro; exact fun _ h => Or.inl h
      iexact HO
    iexact Hmw
  iapply (wp_wand frame _ _) $$ Hwp
  iintro %_ ⟨Hcol, Hl, Hfs, Hch, Hbuf, %W', %hW', HO⟩
  ihave Hb := (Entails.of_eq (buffers_eq (F := F) d L)) $$ Hbuf
  icases Hb with ⟨Hany, Hg, Ho⟩
  isplitl [Hcol Hch]; · isplitl [Hcol] <;> iassumption
  isplitl [Hl Hany Hbufs]
  · isplitl [Hl Hany]; · isplitl [Hl] <;> iassumption
    iexact Hbufs
  isplitl [Hfs Hg Ho Hsems]
  · isplitl [Hfs Hg Ho]
    · isplitl [Hfs]; · iexact Hfs
      isplitl [Hg] <;> iassumption
    iexact Hsems
  iexists W'
  isplitr
  · ipureintro; exact fun p hp => (hW' p hp).imp_right Or.inl
  iexact HO

end Tile

variable [FloatOps F]

theorem defs₀_vector (c : Fin τ.nSC) (s : Fin τ.nSub) :
    defs₀ (F := F) (.scVector c s) 0 ()
      = SparseCore.onTile hcore0 hsub0 (fun c s => cc0__embedding_lookup (coordsV c s)
          posV (Memref.isWhole_whole _) tblV (Memref.isWhole_whole _) resV (Memref.isWhole_whole _) lstV (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) cc0_scratch6 cc0_scratch7 cc0_scratch8 cc0_scratch9 cc0_scratch10
          cc0_scratch11 cc0_scratch12 cc0_scratch13 cc0_scratch14 cc0_scratch15 cc0_scoped0) ⟨⟩ c s := rfl

set_option maxRecDepth 16384 in
/-- Every task of the call does what it is handed its operands for, when every index names a row. -/
theorem tileObl (hI : ∀ d, InRange (positions m d)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_run d (coordsV ⟨_, hci.1⟩ ⟨_, hci.2⟩) (positions m d) (table m d) (before m d) (share ⟨_, hci.1⟩ ⟨_, hci.2⟩) facts (hI d) O W hO

/-! ## The launch element of the ghost state -/

theorem bigSep_none {A : Type} (s : Finset A) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

end Cert.Proof.Lookup

end
-- ==== Proof.Main.lean ====
/-
  The host program around the lookup kernel, and the whole program's run.

  The host transposes the indices, calls the kernel, views the kernel's output as 50 by 4096 by 128 and transposes it. The
  three arrays the call takes split into the 32 tasks' parts (`call_split`), and join again after it.
-/
module

public import proofs.«01_k».proof.Proof.Launch

@[expose] public section

noncomputable section

namespace Cert.Proof.Lookup

open Cert.KernelIdeal Cert.KernelIdeal.Gen

open Idealize.ShloMosaic
open Idealize.ShloMosaic.StableHlo (held wp_hlo_within)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The call's arrays split into the tasks' parts -/

/-- The six arrays of the program, as the host names them. -/
abbrev arg0L (d : Dev nD) : Loc nD τ sig := (SparseCore.T d).loc main_arg0
abbrev arg1L (d : Dev nD) : Loc nD τ sig := (SparseCore.T d).loc main_arg1
abbrev posL (d : Dev nD) : Loc nD τ sig := (SparseCore.T d).loc main_v0
abbrev outL (d : Dev nD) : Loc nD τ sig := (SparseCore.T d).loc main_v1
abbrev viewL (d : Dev nD) : Loc nD τ sig := (SparseCore.T d).loc main_v2
abbrev resL (d : Dev nD) : Loc nD τ sig := (SparseCore.T d).loc main_v3

theorem base_coords (c : Fin 2) (s : Fin 16) : base (coordsV c s) = 256 * s.val + 128 * c.val := rfl

/-- Tasks with equal first columns are one task. -/
theorem task_eq {c c' : Fin 2} {s s' : Fin 16} {x : ℕ} (h : 256 * s.val + 128 * c.val ≤ x ∧ x < 256 * s.val + 128 * c.val + 128)
    (h' : 256 * s'.val + 128 * c'.val ≤ x ∧ x < 256 * s'.val + 128 * c'.val + 128) : (c, s) = (c', s') := by
  have h1 := c.isLt
  have h2 := c'.isLt
  exact Prod.ext (Fin.ext (by show c.val = c'.val; omega)) (Fin.ext (by show s.val = s'.val; omega))

/-- The columns of task `t`, and its output rows for chunk `n`. -/
abbrev colSet (t : Fin 2 × Fin 16) : Finset S50x4096.Idx := (colV (coordsV t.1 t.2)).view.set
abbrev outSet (t : (Fin 2 × Fin 16) × ℕ) : Finset S204800x128.Idx := (outV (coordsV t.1.1 t.1.2) t.2).view.set

theorem mem_outSet (t : (Fin 2 × Fin 16) × ℕ) (i : S204800x128.Idx) :
    i ∈ outSet t ↔ 4096 * (t.2 % 50) + (256 * t.1.2.val + 128 * t.1.1.val) ≤ (i 0).val
      ∧ (i 0).val < 4096 * (t.2 % 50) + (256 * t.1.2.val + 128 * t.1.1.val) + 128 := mem_outV (coordsV t.1.1 t.1.2) t.2 i

/-- Every row number is in the rows of one task's one chunk. -/
theorem row_place (x : ℕ) (hx : x < 204800) : ∃ (c : Fin 2) (s : Fin 16) (n : ℕ), n < 50
    ∧ 4096 * (n % 50) + (256 * s.val + 128 * c.val) ≤ x ∧ x < 4096 * (n % 50) + (256 * s.val + 128 * c.val) + 128 :=
  ⟨⟨x / 128 % 2, by omega⟩, ⟨x / 256 % 16, by omega⟩, x / 4096, by omega, by dsimp only; omega, by dsimp only; omega⟩

theorem outSet_cover (i : S204800x128.Idx) : ∃ t : (Fin 2 × Fin 16) × ℕ, t.2 < 50 ∧ i ∈ outSet t := by
  obtain ⟨c, s, n, hn, h⟩ := row_place (i 0).val (i 0).isLt
  exact ⟨((c, s), n), hn, (mem_outSet _ i).mpr h⟩

/-- A family over `Fin n` as one over the numbers below `n`. -/
theorem bigSep_below (n : ℕ) (Φ : ℕ → sProp 𝕄) : (bigSep Finset.univ fun j : Fin n => Φ j.val) = bigSep (Finset.Ico 0 n) Φ := by
  rw [show Finset.Ico 0 n = (Finset.univ : Finset (Fin n)).map Fin.valEmbedding from Finset.ext fun k => by
    simp only [Finset.mem_Ico, Finset.mem_map, Finset.mem_univ, true_and, Nat.zero_le]
    exact ⟨fun h => ⟨⟨k, h⟩, rfl⟩, fun ⟨j, hj⟩ => hj ▸ j.isLt⟩, bigSep_map]
  rfl

theorem pos_split (d : Dev nD) (I : S50x4096.Idx → Elt F .i32) :
    (posL d ↦{fullShare} I : sProp 𝕄)
      = bigSep Finset.univ fun c : Fin 2 => bigSep Finset.univ fun s : Fin 16 => colP d (coordsV c s) I := by
  have hcov : (Finset.univ : Finset (Fin 2 × Fin 16)).biUnion colSet = Finset.univ := by
    refine Finset.eq_univ_of_forall fun i => ?_
    have hi : (i 1).val < 4096 := (i 1).isLt
    refine Finset.mem_biUnion.mpr ⟨(⟨(i 1).val / 128 % 2, by omega⟩, ⟨(i 1).val / 256, by omega⟩), Finset.mem_univ _, (mem_colV _ i).mpr ?_⟩
    rw [base_coords]
    dsimp only
    omega
  have hdis : ∀ t ∈ (Finset.univ : Finset (Fin 2 × Fin 16)), ∀ t' ∈ (Finset.univ : Finset (Fin 2 × Fin 16)), t ≠ t' →
      Disjoint (colSet t) (colSet t') :=
    fun t _ t' _ hne => Finset.disjoint_left.mpr fun i hi hi' => hne (task_eq ((mem_colV _ i).mp hi) ((mem_colV _ i).mp hi'))
  have h := pointsTo_biUnion (Val := Elt F) (Ix := HIx 1) (Name := ℕ) (U := UU) (Lvl := ℕ) (q := fullShare) (f := I) Finset.univ
    (ℓ := posL d) colSet hdis
  rw [hcov, bigSep_univ_prod] at h
  exact h

set_option maxRecDepth 65536 in
theorem out_split (d : Dev nD) (f : S204800x128.Idx → Elt F .f32) :
    (outL d ↦{fullShare} f : sProp 𝕄)
      = bigSep Finset.univ fun c : Fin 2 => bigSep Finset.univ fun s : Fin 16 => bigSep (Finset.Ico 0 50) fun n => outP d (coordsV c s) n f := by
  have hcov : ((Finset.univ : Finset (Fin 2 × Fin 16)) ×ˢ Finset.Ico 0 50).biUnion outSet = Finset.univ := by
    refine Finset.eq_univ_of_forall fun i => ?_
    refine (Finset.mem_biUnion (s := (Finset.univ : Finset (Fin 2 × Fin 16)) ×ˢ Finset.Ico 0 50) (t := outSet)).mpr ?_
    exact (outSet_cover i).imp fun t h => ⟨Finset.mem_product.mpr ⟨Finset.mem_univ _, Finset.mem_Ico.mpr ⟨Nat.zero_le _, h.1⟩⟩, h.2⟩
  have hdis : ∀ t ∈ (Finset.univ : Finset (Fin 2 × Fin 16)) ×ˢ Finset.Ico 0 50, ∀ t' ∈ (Finset.univ : Finset (Fin 2 × Fin 16)) ×ˢ Finset.Ico 0 50,
      t ≠ t' → Disjoint (outSet t) (outSet t') := by
    rintro ⟨⟨c, s⟩, n⟩ ht ⟨⟨c', s'⟩, n'⟩ ht' hne
    refine Finset.disjoint_left.mpr fun i hi hi' => hne ?_
    have hn := (Finset.mem_Ico.mp (Finset.mem_product.mp ht).2).2
    have hn' := (Finset.mem_Ico.mp (Finset.mem_product.mp ht').2).2
    have h := (mem_outV _ _ i).mp hi
    have h' := (mem_outV _ _ i).mp hi'
    rw [base_coords] at h h'
    dsimp only at hn hn' h h'
    have h1 := c.isLt
    have h2 := c'.isLt
    have h3 := s.isLt
    have h4 := s'.isLt
    rw [Nat.mod_eq_of_lt hn] at h
    rw [Nat.mod_eq_of_lt hn'] at h'
    have e : n = n' := by omega
    subst e
    exact Prod.ext (task_eq (x := (i 0).val - 4096 * n) (by omega) (by omega)) rfl
  have h := pointsTo_biUnion (Val := Elt F) (Ix := HIx 1) (Name := ℕ) (U := UU) (Lvl := ℕ) (q := fullShare) (f := f)
    ((Finset.univ : Finset (Fin 2 × Fin 16)) ×ˢ Finset.Ico 0 50)
    (ℓ := outL d) outSet hdis
  rw [hcov, SparseCore.bigSep_product, bigSep_univ_prod] at h
  exact h

/-- Anything whole at the full share is the 1600 chunks' shares of it. -/
theorem share_split (ℓ : Loc nD τ sig) (X : Buf (Elt F) ℓ) :
    (ℓ ↦{fullShare} X : sProp 𝕄)
      = bigSep Finset.univ fun c : Fin 2 => bigSep Finset.univ fun s : Fin 16 => bigSep (Finset.Ico 0 50) fun n => ℓ ↦{share c s n} X := by
  refine (pointsTo_piecesOf Finset.univ X (o := 2) (by decide) fullShare).trans (bigSep_congr fun c _ => ?_)
  refine (pointsTo_piecesOf Finset.univ X (o := 16) (by decide) _).trans (bigSep_congr fun s _ => ?_)
  refine (pointsTo_piecesOf Finset.univ X (o := 50) (by decide) _).trans ?_
  refine Eq.trans (bigSep_congr fun j _ => ?_) (bigSep_below 50 fun n => (ℓ ↦{share c s n} X : sProp 𝕄))
  rw [show share c s j.val = pieceOf (pieceOf (pieceOf fullShare 2 (by decide) c) 16 (by decide) s) 50 (by decide) j from
    congrArg _ (Fin.ext (Nat.mod_eq_of_lt j.isLt))]

theorem tokP_eq (d : Dev nD) (L : grid0.Coords) (X : S100000x128.Idx → Elt F .f32) (q : ℕ → PosShare TreeShare) (n : ℕ) :
    (tokP d L X q n : sProp 𝕄) = (arg1L d ↦{q n} X) :=
  congrArg (fun A : Finset S100000x128.Idx => (arg1L d ↦[A]{q n} X : sProp 𝕄)) tabV_set

theorem tab_split (d : Dev nD) (X : S100000x128.Idx → Elt F .f32) :
    (arg1L d ↦{fullShare} X : sProp 𝕄)
      = bigSep Finset.univ fun c : Fin 2 => bigSep Finset.univ fun s : Fin 16 =>
          bigSep (Finset.Ico 0 50) fun n => tokP d (coordsV c s) X (share c s) n := by
  simp only [tokP_eq]
  exact share_split (arg1L d) X

variable (m : (ℓ : Loc nD τ sig) → Buf (Elt F) ℓ) (ρ : Dev nD → PrngReg)

/-- The call's three arrays whole are the 32 tasks' parts. -/
theorem call_split (d : Dev nD) (f : S204800x128.Idx → Elt F .f32) :
    (iprop((posL d ↦{fullShare} positions m d) ∗ (arg1L d ↦{fullShare} table m d) ∗ (outL d ↦{fullShare} f)) : sProp 𝕄)
      = bigSep Finset.univ fun c : Fin 2 => bigSep Finset.univ fun s : Fin 16 => taskP m d c s f := by
  rw [pos_split, tab_split, out_split]
  unfold taskP chunksP
  simp only [bigSep_sep']

/-! ## The host's operations -/

/-- The program's result: the kernel's output seen by history position, batch element and feature, the first two swapped. -/
def result (d : Dev nD) : S4096x50x128.Idx → Elt F .f32 :=
  transpose S4096x50x128 [1, 0, 2] (shapeCast S50x4096x128 (after m d) shapeCasts_S204800x128_S50x4096x128) transposes_S50x4096x128_S4096x50x128_1_0_2

abbrev arg0' : DevRef τ sig := Proc.devRef .tc (main_arg0 : Ref sig .tc)
abbrev arg1' : DevRef τ sig := Proc.devRef .tc (main_arg1 : Ref sig .tc)
abbrev pos' : DevRef τ sig := Proc.devRef .tc (main_v0 : Ref sig .tc)
abbrev out' : DevRef τ sig := Proc.devRef .tc (main_v1 : Ref sig .tc)
abbrev view' : DevRef τ sig := Proc.devRef .tc (main_v2 : Ref sig .tc)
abbrev res' : DevRef τ sig := Proc.devRef .tc (main_v3 : Ref sig .tc)

abbrev opPos : HloOp τ sig (Elt F) := StableHlo.unary main_arg0 main_v0
  ((transpose S50x4096 [1, 0] · transposes_S4096x50_S50x4096_1_0) : (⟨S4096x50, .i32⟩ : BufTy).Contents (Elt F) → (⟨S50x4096, .i32⟩ : BufTy).Contents (Elt F))
abbrev opView : HloOp τ sig (Elt F) := StableHlo.reshape main_v1 main_v2 (rfl : (.f32 : EltTy) = .f32) shapeCasts_S204800x128_S50x4096x128
abbrev opRes : HloOp τ sig (Elt F) := StableHlo.unary main_v2 main_v3
  ((transpose S4096x50x128 [1, 0, 2] · transposes_S50x4096x128_S4096x50x128_1_0_2) : (⟨S50x4096x128, .f32⟩ : BufTy).Contents (Elt F) → (⟨S4096x50x128, .f32⟩ : BufTy).Contents (Elt F))

/-- The host's arrays. -/
abbrev S6 : Finset (DevRef τ sig) := {arg0', arg1', pos', out', view', res'}

theorem held_S6 (d : Dev nD) (W : Valuation τ sig (Elt F)) :
    (held (SparseCore.T d) S6 W : sProp 𝕄)
      = iprop((arg0L d ↦{fullShare} W arg0') ∗ (arg1L d ↦{fullShare} W arg1') ∗ (posL d ↦{fullShare} W pos')
          ∗ (outL d ↦{fullShare} W out') ∗ (viewL d ↦{fullShare} W view') ∗ resL d ↦{fullShare} W res') := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The arrays at the launch, before the call, after it, and after each of the two last operations. -/
def V0 (d : Dev nD) : Valuation τ sig (Elt F) := fun b => m (d, b)
def V1 (d : Dev nD) : Valuation τ sig (Elt F) := (opPos (F := F)).result (V0 m d)
def V2 (d : Dev nD) : Valuation τ sig (Elt F) := Function.update (V1 m d) out' (after m d)
def V3 (d : Dev nD) : Valuation τ sig (Elt F) := (opView (F := F)).result (V2 m d)
def V4 (d : Dev nD) : Valuation τ sig (Elt F) := (opRes (F := F)).result (V3 m d)

theorem unscoped_held (d : Dev nD) : (unscopedBufs d (fun b => m ((SparseCore.T d).loc b)) : sProp 𝕄) = held (SparseCore.T d) S6 (V0 m d) := by
  rw [held_S6]
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]
  rfl

theorem V1_of_ne (d : Dev nD) {b : DevRef τ sig} (h : b ∉ ({pos'} : Finset (DevRef τ sig))) : V1 m d b = V0 m d b :=
  (opPos (F := F)).result_of_not_mem _ h
theorem V1_pos (d : Dev nD) : V1 m d pos' = positions m d := StableHlo.unary_result _ _ _ _ _ _
theorem V2_of_ne (d : Dev nD) {b : DevRef τ sig} (h : b ≠ out') : V2 m d b = V1 m d b := Function.update_of_ne h _ _
theorem V2_out (d : Dev nD) : V2 m d out' = after m d := Function.update_self _ _ _
theorem V3_of_ne (d : Dev nD) {b : DevRef τ sig} (h : b ∉ ({view'} : Finset (DevRef τ sig))) : V3 m d b = V2 m d b :=
  (opView (F := F)).result_of_not_mem _ h
theorem V3_view (d : Dev nD) : V3 m d view' = shapeCast S50x4096x128 (after m d) shapeCasts_S204800x128_S50x4096x128 := by
  refine (StableHlo.reshape_result _ _ _ _ _ _ _).trans ?_
  rw [V2_out]; rfl
theorem V4_of_ne (d : Dev nD) {b : DevRef τ sig} (h : b ∉ ({res'} : Finset (DevRef τ sig))) : V4 m d b = V3 m d b :=
  (opRes (F := F)).result_of_not_mem _ h
theorem V4_res (d : Dev nD) : V4 m d res' = result m d := by
  refine (StableHlo.unary_result _ _ _ _ _ _).trans ?_
  rw [V3_view]; rfl

theorem V4_arg0 (d : Dev nD) : V4 m d arg0' = m (arg0L d) := by
  rw [V4_of_ne m d (by decide), V3_of_ne m d (by decide), V2_of_ne m d (by decide), V1_of_ne m d (by decide)]; rfl
theorem V4_arg1 (d : Dev nD) : V4 m d arg1' = m (arg1L d) := by
  rw [V4_of_ne m d (by decide), V3_of_ne m d (by decide), V2_of_ne m d (by decide), V1_of_ne m d (by decide)]; rfl

theorem held_before (d : Dev nD) :
    (held (SparseCore.T d) S6 ((opPos (F := F)).result (V0 m d)) : sProp 𝕄)
      = iprop((arg0L d ↦{fullShare} V1 m d arg0') ∗ (arg1L d ↦{fullShare} table m d) ∗ (posL d ↦{fullShare} positions m d)
          ∗ (outL d ↦{fullShare} before m d) ∗ (viewL d ↦{fullShare} V1 m d view') ∗ resL d ↦{fullShare} V1 m d res') := by
  show held (SparseCore.T d) S6 (V1 m d) = _
  rw [held_S6, V1_pos, V1_of_ne m d (b := arg1') (by decide), V1_of_ne m d (b := out') (by decide)]; rfl
theorem held_after (d : Dev nD) :
    (held (SparseCore.T d) S6 (V2 m d) : sProp 𝕄)
      = iprop((arg0L d ↦{fullShare} V1 m d arg0') ∗ (arg1L d ↦{fullShare} table m d) ∗ (posL d ↦{fullShare} positions m d)
          ∗ (outL d ↦{fullShare} after m d) ∗ (viewL d ↦{fullShare} V1 m d view') ∗ resL d ↦{fullShare} V1 m d res') := by
  rw [held_S6, V2_out, V2_of_ne m d (b := arg0') (by decide), V2_of_ne m d (b := arg1') (by decide), V2_of_ne m d (b := pos') (by decide),
    V2_of_ne m d (b := view') (by decide), V2_of_ne m d (b := res') (by decide), V1_pos, V1_of_ne m d (b := arg1') (by decide)]; rfl

theorem opPos_sub : (opPos (F := F)).bufs ⊆ S6 := show ({arg0', pos'} : Finset (DevRef τ sig)) ⊆ S6 by decide
theorem opView_sub : (opView (F := F)).bufs ⊆ S6 := show ({out', view'} : Finset (DevRef τ sig)) ⊆ S6 by decide
theorem opRes_sub : (opRes (F := F)).bufs ⊆ S6 := show ({view', res'} : Finset (DevRef τ sig)) ⊆ S6 by decide

variable [FloatOps F]

/-- The call's operands, over the launch's own counts of cores and subcores, are the arrays whole. -/
theorem bigSep_cast {n k : ℕ} (h : n = k) (Φ : Fin k → sProp 𝕄) :
    (bigSep Finset.univ fun c : Fin n => Φ (Fin.cast h c)) = bigSep Finset.univ Φ := by subst h; rfl

theorem call_arrays (d : Dev nD) (f : S204800x128.Idx → Elt F .f32) :
    (bigSep Finset.univ fun c : Fin ((K (F := F)).nCore 0) => bigSep Finset.univ fun s : Fin ((K (F := F)).nSub 0) =>
        taskP m d (Fin.cast (core_two 0) c) (Fin.cast (sub_sixteen 0) s) f)
      = iprop((posL d ↦{fullShare} positions m d) ∗ (arg1L d ↦{fullShare} table m d) ∗ (outL d ↦{fullShare} f)) :=
  (bigSep_cast (core_two (F := F) 0) fun c => bigSep Finset.univ fun s : Fin ((K (F := F)).nSub 0) => taskP m d c (Fin.cast (sub_sixteen 0) s) f).trans
    ((bigSep_congr fun c _ => bigSep_cast (sub_sixteen (F := F) 0) fun s => taskP m d c s f).trans (call_split m d f).symm)

theorem st_eq (d : Dev nD) : (bigSep Finset.univ fun c : Fin ((K (F := F)).nCore 0) => (P m).st 0 d c)
    = iprop((posL d ↦{fullShare} positions m d) ∗ (arg1L d ↦{fullShare} table m d) ∗ (outL d ↦{fullShare} before m d)) := call_arrays m d _
theorem dn_eq (d : Dev nD) : (bigSep Finset.univ fun c : Fin ((K (F := F)).nCore 0) => (P m).dn 0 d c)
    = iprop((posL d ↦{fullShare} positions m d) ∗ (arg1L d ↦{fullShare} table m d) ∗ (outL d ↦{fullShare} after m d)) := call_arrays m d _

/-- What the host keeps for the claims: the arguments as they were, the result. -/
abbrev FIN (d : Dev nD) : sProp 𝕄 :=
  iprop((arg0L d ↦{fullShare} m (arg0L d)) ∗ (arg1L d ↦{fullShare} m (arg1L d)) ∗ resL d ↦{fullShare} result m d)

theorem held_final (d : Dev nD) : (held (SparseCore.T d) S6 ((opRes (F := F)).result ((opView (F := F)).result (V2 m d))) : sProp 𝕄) ⊢ FIN m d := by
  show held (SparseCore.T d) S6 (V4 m d) ⊢ _
  rw [held_S6, V4_res, V4_arg0, V4_arg1]
  iintro ⟨H0, H1, -, -, -, Hr⟩
  isplitl [H0]; · iexact H0
  isplitl [H1] <;> iassumption

/-- The host program on device `d`: the transpose, the call, the two operations after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opPos) (S := S6) opPos_sub (V := V0 m d)) $$ [Hb Hheld]
  · isplitl [Hb] <;> iassumption
  iintro ⟨Hb, Hheld⟩
  rw [wp_ret]; imodintro
  ihave Hh := (Entails.of_eq (held_before (F := F) m d)) $$ Hheld
  icases Hh with ⟨H0, H1, Hp, Ho, Hv, Hr⟩
  iapply ((K (F := F)).wp_run (D (F := F)) 𝒱 (EH := EH) (P := P m) κ d 0) $$ [Hst H0 H1 Hp Ho Hv Hr Hb Hts]
  isplitr; · iexact Hctx
  isplitl [Hst]; · iexact Hst
  isplitl [H1 Hp Ho]
  · rw [st_eq]
    isplitl [Hp]; · iexact Hp
    isplitl [H1] <;> iassumption
  iintro ⟨Hst, Hdn⟩
  ihave Hdn' := (Entails.of_eq (dn_eq m d)) $$ Hdn
  icases Hdn' with ⟨Hp, H1, Ho⟩
  ihave Hheld := (Entails.of_eq (held_after (F := F) m d).symm) $$ [H0 H1 Hp Ho Hv Hr]
  · isplitl [H0]; · iexact H0
    isplitl [H1]; · iexact H1
    isplitl [Hp]; · iexact Hp
    isplitl [Ho]; · iexact Ho
    isplitl [Hv] <;> iassumption
  iapply (wp_hlo_within 𝒱 (SparseCore.T d) none Set.univ (op := opView) (S := S6) opView_sub (V := V2 m d)) $$ [Hb Hheld]
  · isplitl [Hb] <;> iassumption
  iintro ⟨Hb, Hheld⟩
  rw [wp_ret]; imodintro
  iapply (wp_hlo_within 𝒱 (SparseCore.T d) none Set.univ (op := opRes) (S := S6) opRes_sub (V := (opView (F := F)).result (V2 m d))) $$ [Hb Hheld]
  · isplitl [Hb] <;> iassumption
  iintro ⟨Hb, Hheld⟩
  rw [wp_ret]; imodintro; imodintro
  isplitl [Hst]; · iexact Hst
  isplitl [Hheld]
  · iapply (held_final m d); iexact Hheld
  isplitl [Hb] <;> iassumption

/-- What the claims read of device `d`'s final memory. -/
def fq (d : Dev nD) (s' : Phys nD τ sig (Elt F)) : Prop :=
  s'.mem.mem (resL d) = result m d ∧ s'.mem.mem (arg0L d) = m (arg0L d) ∧ s'.mem.mem (arg1L d) = m (arg1L d)

set_option maxRecDepth 16384 in
theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := arg0L d) (I := Finset.univ) (q := fullShare) (f := m (arg0L d)))) $$ [HSI H0]
  · isplitl [HSI] <;> iassumption
  icases H with ⟨%h0, HSI, -⟩
  ihave H := (persistent_entails_right (SI_pointsTo_agree (st := s') (ℓ := arg1L d) (I := Finset.univ) (q := fullShare) (f := m (arg1L d)))) $$ [HSI H1]
  · isplitl [HSI] <;> iassumption
  icases H with ⟨%h1, HSI, -⟩
  ihave H := (SI_pointsTo_agree (st := s') (ℓ := resL d) (I := Finset.univ) (q := fullShare) (f := result m d)) $$ [HSI Hr]
  · isplitl [HSI] <;> iassumption
  icases H with %h2
  ipureintro
  exact ⟨funext fun i => h2 i (Finset.mem_univ i), funext fun i => h0 i (Finset.mem_univ i), funext fun i => h1 i (Finset.mem_univ i)⟩

/-! ## The run -/

/-- The end of the program: on every device the result is `result`, the arguments are unchanged; every semaphore is at zero. -/
def Ends (r : PUnit × MemSt nD τ sig (Elt F)) : Prop :=
  (∀ d : Dev nD, r.2.mem (resL d) = result m d ∧ r.2.mem (arg0L d) = m (arg0L d) ∧ r.2.mem (arg1L d) = m (arg1L d)) ∧ r.2.sem = fun _ => 0

/-- Every index argument names a row of the table. -/
def ArgsOK : Prop := ∀ (d : Dev nD) (j : S4096x50.Idx), (m (arg0L d) j).toNat < 100000

theorem run_main [∀ e, Nonempty (Elt F e)] (h : ArgsOK m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m fun d j => h d _)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Proof.Lookup

end
-- ==== Proof.Taken.lean ====
/-
  The value both programs compute: row `idx[b, h]` of the table at result position `(b, h)` (`taken`).

  The kernel's program: `result_eq`. The host's two transposes and its change of shape are undone index by index.
-/
module

public import proofs.«01_k».proof.Proof.Main
public import Idealize.ShloMosaic.Lib.Pipeline.Value

@[expose] public section

noncomputable section

namespace Cert.Proof.Lookup

open Cert.KernelIdeal Cert.KernelIdeal.Gen

open Idealize.ShloMosaic
open Idealize.ShloMosaic.ValueIdx (ix2 ix3)

variable {F : FTy → Type}

/-- The table's row named by the index at batch `j 0`, history position `j 1`; lane `j 2` of it. -/
def taken (I : S4096x50.Idx → Elt F .i32) (X : S100000x128.Idx → Elt F .f32) : S4096x50x128.Idx → Elt F .f32 := fun j =>
  X (ix2 (n0 := 100000) (n1 := 128)
    ⟨(I (ix2 (n0 := 4096) (n1 := 50) (j 0) (j 1))).toNat % 100000, Nat.mod_lt _ (by decide)⟩ (j 2))

/-- The flat row of batch `j 0` at history position `j 1`. -/
abbrev flatRow (j : S4096x50x128.Idx) : S204800x128.Idx :=
  ix2 (n0 := 204800) (n1 := 128) ⟨4096 * (j 1).val + (j 0).val, by
    have h0 : (j 0).val < 4096 := (j 0).isLt
    have h1 : (j 1).val < 50 := (j 1).isLt
    omega⟩ (j 2)

/-- The host's reading of the kernel's output: position `(b, h)` is flat row `4096 * h + b`. -/
theorem unflatten (Y : S204800x128.Idx → Elt F .f32) (j : S4096x50x128.Idx) :
    transpose S4096x50x128 [1, 0, 2] (shapeCast S50x4096x128 Y shapeCasts_S204800x128_S50x4096x128)
      transposes_S50x4096x128_S4096x50x128_1_0_2 j = Y (flatRow j) := by
  have h0 : (j 0).val < 4096 := (j 0).isLt
  have h1 : (j 1).val < 50 := (j 1).isLt
  rw [transpose_apply _ _ _ j (ix3 (n0 := 50) (n1 := 4096) (n2 := 128) (j 1) (j 0) (j 2))
    (fun b => match b with | 0 => rfl | 1 => rfl | 2 => rfl)]
  refine shapeCast_apply _ _ _ _ ?_
  rw [Shape.rowMajor_val_two, Shape.rowMajor_val_three]
  show (4096 * (j 1).val + (j 0).val) * 128 + (j 2).val = ((j 1).val * 4096 + (j 0).val) * 128 + (j 2).val
  omega

variable (m : (ℓ : Loc nD τ sig) → Buf (Elt F) ℓ)

/-- The kernel's index array is the argument with its axes exchanged. -/
theorem positions_apply (d : Dev nD) (a : Fin 50) (b : Fin 4096) :
    positions m d (ix2 a b) = m (arg0L d) (ix2 (n0 := 4096) (n1 := 50) b a) :=
  transpose_apply _ _ _ _ _ fun c => match c with | 0 => rfl | 1 => rfl

theorem result_eq (d : Dev nD) : result m d = taken (m (arg0L d)) (m (arg1L d)) := by
  funext j
  have h0 : (j 0).val < 4096 := (j 0).isLt
  have h1 : (j 1).val < 50 := (j 1).isLt
  refine (unflatten (after m d) j).trans ?_
  show lookup (positions m d) (table m d) (flatRow j) = _
  unfold lookup taken
  have e1 : (4096 * (j 1).val + (j 0).val) / 4096 = (j 1).val := by omega
  have e0 : (4096 * (j 1).val + (j 0).val) % 4096 = (j 0).val := by omega
  refine congrArg (fun r : Fin 100000 => m (arg1L d) (ix2 (n0 := 100000) (n1 := 128) r (j 2))) (Fin.ext ?_)
  refine congrArg (fun w : BitVec 32 => w.toNat % 100000) ?_
  refine Eq.trans ?_ (positions_apply m d (j 1) (j 0))
  refine congrArg (positions m d) ?_
  funext a
  match a with
  | 0 => exact Fin.ext e1
  | 1 => exact Fin.ext e0

end Cert.Proof.Lookup

end
-- ==== Proof.Reference.lean ====
/-
  The reference program's value, and what the precondition says.

  The reference wraps a negative index, gathers the rows with the row numbers clamped into the table, and then puts a NaN
  wherever the wrapped index is out of range. With every index in range (`inRange`, which the precondition states) the wrap,
  the clamp and the fill do nothing, and the value is `taken`.
-/
module

public import proofs.«01_k».proof.Proof.Taken
public import proofs.«01_k».proof.Proof.Gen.ReferenceIdeal.Run
public import proofs.«01_k».proof.Proof.Gen.Pre_rows_in_range
public import Idealize.ShloMosaic.Lib.ReduceAll

@[expose] public section

noncomputable section

namespace Cert.Proof.Lookup

open Cert.ReferenceIdeal Cert.ReferenceIdeal.Gen

open Idealize.ShloMosaic
open Idealize.ShloMosaic.ValueIdx (ix2 ix3)

variable {F : FTy → Type}

/-- Every index names a row of the table. -/
def inRange (I : S4096x50.Idx → BitVec 32) : Prop := ∀ j, (I j).toNat < 100000

/-! ## Words below the table's height -/

/-- A word that is at least 0 and below the table's height as a signed number is below it as an unsigned one. -/
theorem row_of_signed {x : BitVec 32} (h0 : IntOp.cmpi .sge x 0#32 = 1#1) (h1 : IntOp.cmpi .slt x 100000#32 = 1#1) :
    x.toNat < 100000 := by
  rw [IntOp.cmpi_sge] at h0
  rw [IntOp.cmpi_slt] at h1
  rw [show (0#32 : BitVec 32).toInt = 0 from by decide] at h0
  rw [show (100000#32 : BitVec 32).toInt = 100000 from by decide] at h1
  rw [BitVec.toInt_eq_toNat_cond] at h0 h1
  split at h0 <;> split at h1 <;> omega

theorem row_toInt {x : BitVec 32} (h : x.toNat < 100000) : x.toInt = x.toNat := BitVec.toInt_eq_toNat_of_lt (by omega)

/-- Such a word is not wrapped. -/
theorem row_not_wrapped {x : BitVec 32} (h : x.toNat < 100000) :
    Scalar.select (IntOp.cmpi .slt x 0#32) (IntOp.addi x 100000#32) x = x := by
  have hn : ¬IntOp.cmpi .slt x 0#32 = 1#1 := by
    rw [IntOp.cmpi_slt, row_toInt h, show (0#32 : BitVec 32).toInt = 0 from by decide]; omega
  exact if_neg hn

/-- Such a word passes the reference's test. -/
theorem row_passes {x : BitVec 32} (h : x.toNat < 100000) :
    IntOp.andi (IntOp.cmpi .sge x 0#32) (IntOp.cmpi .sle x 99999#32) = 1#1 := by
  refine IntOp.andi_eq_one.2 ⟨?_, ?_⟩
  · rw [IntOp.cmpi_sge, row_toInt h, show (0#32 : BitVec 32).toInt = 0 from by decide]; omega
  · rw [IntOp.cmpi_sle, row_toInt h, show (99999#32 : BitVec 32).toInt = 99999 from by decide]; omega

/-! ## The precondition -/

instance : Subsingleton Cert.Pre_rows_in_range.S_.Idx := ⟨fun a b => funext fun i => i.elim0⟩

theorem inRange_of_pre [FloatOps F] (I : S4096x50.Idx → BitVec 32) (X : S100000x128.Idx → F .f32)
    (h : Cert.Pre_rows_in_range.fn (F := F) I X = fun _ => 1#1) : inRange I := by
  intro j
  have e := Host.reduce_andi_all _ _ _ _ _ (congrFun h (Shape.Idx.first Cert.Pre_rows_in_range.Gen.facts.h_S_)) j
  obtain ⟨h0, h1⟩ := IntOp.andi_eq_one.1 e
  exact row_of_signed h0 h1

/-! ## The gather of rows -/

/-- The start-index position of result position `j`. -/
abbrev startAt (j : S4096x50x128.Idx) : S4096x50x1.Idx := ix3 (n0 := 4096) (n1 := 50) (n2 := 1) (j 0) (j 1) 0

/-- Result position `(b, h, l)` of the gather is lane `l` of the row that the start index at `(b, h)` names, read signed and
    clamped into the table. -/
theorem gather_rows_apply (X : S100000x128.Idx → F .f32) (s : S4096x50x1.Idx → BitVec 32) (j : S4096x50x128.Idx) :
    Host.gather gather_S100000x128_S4096x50x1_S4096x50x128_2_0_n_n_0_2_1128 X s j
      = X (ix2 (n0 := 100000) (n1 := 128) ⟨min (s (startAt j)).toInt.toNat 99999, by omega⟩ (j 2)) := by
  let D := gather_S100000x128_S4096x50x1_S4096x50x128_2_0_n_n_0_2_1128
  show X (D.operandIdx j s) = _
  refine congrArg X (funext fun a => Fin.ext ?_)
  show D.start j s a + D.batchCoord j a + D.offCoord j a = _
  rw [D.batchCoord_eq_zero j a List.not_mem_nil]
  match a with
  | 0 =>
    rw [D.offCoord_eq_zero j 0 (fun h => ((D.mem_sKept 0).1 h).1 (List.mem_singleton.2 rfl))]
    have hs : D.siIdx j ⟨D.startIndexMap.idxOf 0, List.idxOf_lt_length_iff.2 (List.mem_singleton.2 rfl)⟩ = startAt j := by
      funext b
      match b with
      | 0 => rfl
      | 1 => rfl
      | 2 => rfl
    unfold GatherDims.start
    rw [dif_pos (show (0 : Fin 2) ∈ D.startIndexMap from List.mem_singleton.2 rfl), hs]
    rfl
  | 1 =>
    have hz : D.start j s 1 = 0 := dif_neg (by decide)
    rw [hz]
    show 0 + 0 + D.offCoord j 1 = (j 2).val
    rw [Nat.zero_add]
    rfl

/-! ## The reference's value -/

section Value

variable [FloatOps F] (I : S4096x50.Idx → BitVec 32) (X : S100000x128.Idx → F .f32)

/-- The wrapped indices, as the gather takes them. -/
def wrapped : S4096x50x1.Idx → BitVec 32 :=
  broadcastInDim S4096x50x1 ![0, 1] bcast_S4096x50_S4096x50x1_0_1
    (select (cmpi .slt I (broadcastInDim S4096x50 ![] bcast_S_S4096x50 (constantI S_ 32 0#32)))
      (addi I (broadcastInDim S4096x50 ![] bcast_S_S4096x50 (constantI S_ 32 100000#32))) I)

/-- Where the wrapped index is a row's number. -/
def hit : S4096x50.Idx → BitVec 1 :=
  Host.reduce IntOp.andi
    (andi (cmpi .sge (wrapped I) (broadcastInDim S4096x50x1 ![] bcast_S_S4096x50x1 (constantI S_ 32 0#32)))
      (cmpi .sle (wrapped I) (broadcastInDim S4096x50x1 ![0, 1, 2] bcast_S1x1x1_S4096x50x1_0_1_2
        (broadcastInDim S1x1x1 ![2] bcast_S1_S1x1x1_2 (constantI S1 32 99999#32)))))
    (constantI S_ 1 1#1) reducesTo_S4096x50x1_S4096x50_d2 h_S_

/-- The reference's result. -/
def filled : S4096x50x128.Idx → F .f32 :=
  select (broadcastInDim S4096x50x128 ![0, 1] bcast_S4096x50_S4096x50x128_0_1 (hit I))
    (Host.gather gather_S100000x128_S4096x50x1_S4096x50x128_2_0_n_n_0_2_1128 X (wrapped I))
    (broadcastInDim S4096x50x128 ![] bcast_S_S4096x50x128 (constant S_ .f32 0x7FC00000#32))

variable {I}

/-- In range, the wrapped index at `(b, h)` is the index. -/
theorem wrapped_apply (h : inRange I) (k : S4096x50x1.Idx) : wrapped I k = I (ix2 (n0 := 4096) (n1 := 50) (k 0) (k 1)) := by
  unfold wrapped
  rw [broadcastInDim_apply _ _ _ k (ix2 (n0 := 4096) (n1 := 50) (k 0) (k 1)) (fun a => match a with | 0 => rfl | 1 => rfl)]
  exact row_not_wrapped (h _)

/-- In range, no position is filled. -/
theorem hit_apply (h : inRange I) (j : S4096x50.Idx) : hit I j = 1#1 := by
  unfold hit
  refine Host.reduce_andi_one _ _ _ _ _ rfl fun k => ?_
  show IntOp.andi (IntOp.cmpi .sge (wrapped I k) 0#32) (IntOp.cmpi .sle (wrapped I k) 99999#32) = 1#1
  rw [wrapped_apply h k]
  exact row_passes (h _)

theorem filled_eq (h : inRange I) : filled I X = taken (F := F) I X := by
  funext j
  have hw := h (ix2 (n0 := 4096) (n1 := 50) (j 0) (j 1))
  unfold filled
  rw [ValueIdx.select_apply, broadcastInDim_apply _ _ _ j (ix2 (n0 := 4096) (n1 := 50) (j 0) (j 1))
    (fun a => match a with | 0 => rfl | 1 => rfl), hit_apply h]
  refine Eq.trans (if_pos rfl) ((gather_rows_apply X (wrapped I) j).trans ?_)
  unfold taken
  refine congrArg (fun r : Fin 100000 => X (ix2 (n0 := 100000) (n1 := 128) r (j 2))) (Fin.ext ?_)
  show min (wrapped I (startAt j)).toInt.toNat 99999 = (I (ix2 (n0 := 4096) (n1 := 50) (j 0) (j 1))).toNat % 100000
  rw [wrapped_apply h (startAt j)]
  show min (I (ix2 (n0 := 4096) (n1 := 50) (j 0) (j 1))).toInt.toNat 99999 = (I (ix2 (n0 := 4096) (n1 := 50) (j 0) (j 1))).toNat % 100000
  rw [row_toInt hw, Int.toNat_natCast, Nat.mod_eq_of_lt hw]
  omega

end Value

end Cert.Proof.Lookup

end
-- ==== Proof.lean ====
/-
  The claims.

  The run of the lookup program is proved once, for floats of any kind (`Lookup.run_main`); it gives the frame of the program
  on bit patterns, its frame on exact numbers, and its side of the equality. The reference's run is the generated one; with
  the indices in range its value is the same `taken` (`Lookup.filled_eq`, `Lookup.result_eq`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_rows_in_range
public import proofs.«01_k».proof.Proof.Reference
public import Idealize.ShloMosaic.Adequacy
public import Idealize.ShloMosaic.Init

@[expose] public section

noncomputable section

namespace Cert.Proof

open Idealize.ShloMosaic Idealize.SL.Sem
open Cert.Proof.Lookup

/-- The program on bit patterns: it ends, its arguments unchanged, every semaphore at zero. -/
theorem frame_kernel : Cert.quiescent_Kernel := fun m ρ hpre =>
  (θ_run Cert.KernelIdeal.defs _ _).mono (fun _ h => ⟨fun c => (h.1 c).2, h.2⟩)
    (run_main (F := Bits) m ρ fun d => inRange_of_pre _ _ (hpre d))

/-- The same of the program on exact numbers. -/
theorem frame_kernelIdeal : Cert.quiescent_KernelIdeal := fun m ρ hpre =>
  (θ_run Cert.KernelIdeal.defs _ _).mono (fun _ h => ⟨fun c => (h.1 c).2, h.2⟩)
    (run_main (F := Ideal) m ρ fun d => inRange_of_pre _ _ (hpre d))

/-- The reference, whatever its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs end with `taken` of the arguments. -/
theorem equal_results : Cert.algebraic_KernelIdeal_ReferenceIdeal := by
  intro m ρ m' ρ' hpre hargs
  have hr : ∀ d : Dev Cert.KernelIdeal.nD, inRange (m (arg0L d)) := fun d => inRange_of_pre _ _ (hpre d)
  refine ⟨fun c => taken (F := Ideal) (m (arg0L c)) (m (arg1L c)), ?_, ?_⟩
  · exact (θ_run Cert.KernelIdeal.defs _ _).mono (fun _ h c => ⟨(h.1 c).1.trans (result_eq m c), (h.1 c).2⟩)
      (run_main (F := Ideal) m ρ hr)
  · refine (θ_run Cert.ReferenceIdeal.defs _ _).mono (fun _ h c => ⟨(h c).1.trans ?_, (h c).2⟩)
      (Cert.ReferenceIdeal.Value.run (F := Ideal) m' ρ')
    rw [(hargs c).1, (hargs c).2]
    exact filled_eq (F := Ideal) (m (arg1L c)) (hr c)

theorem claim : Cert.Claim := ⟨Cert.Kernel.Gen.facts, Cert.KernelIdeal.Gen.facts, Cert.ReferenceIdeal.Gen.facts, Cert.Pre_rows_in_range.Gen.facts,
  frame_kernel, frame_kernelIdeal, frame_reference, fun m ρ _ => frame_reference m ρ trivial, trivial, equal_results⟩

end Cert.Proof

end
